-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ preserves_Kernel_KernelIdeal
    ∧ algebraic_KernelIdeal_ReferenceIdeal (hKernelIdeal := hKernelIdeal) (hReferenceIdeal := hReferenceIdeal) (hPre_idx_in_range := hPre_idx_in_range)
-- ==== Pre_idx_in_range.lean ====
abbrev S6x256x1536 : Shape := ⟨3, ![6, 256, 1536]⟩
abbrev S768x8960 : Shape := ⟨2, ![768, 8960]⟩
abbrev S12x8960 : Shape := ⟨2, ![12, 8960]⟩
abbrev S3x1536x2 : Shape := ⟨3, ![3, 1536, 2]⟩
abbrev S3x8960x2 : Shape := ⟨3, ![3, 8960, 2]⟩
abbrev S3x1536x4 : Shape := ⟨3, ![3, 1536, 4]⟩
abbrev S3x8960x4 : Shape := ⟨3, ![3, 8960, 4]⟩
abbrev S3x1536x10 : Shape := ⟨3, ![3, 1536, 10]⟩
abbrev S3x8960x10 : Shape := ⟨3, ![3, 8960, 10]⟩
abbrev S3x192 : Shape := ⟨2, ![3, 192]⟩
abbrev S6 : Shape := ⟨1, ![6]⟩
abbrev S_ : Shape := ⟨0, ![]⟩

class Facts : Prop where
  bcast_S_S6 : S_.BroadcastsInDim S6 (![] : Fin 0 → Fin S6.rank)

variable [Facts]

def fn {F : FTy → Type} [FloatOps F] (main_arg0 : FVec F S6x256x1536 .bf16) (main_arg1 : IVec S768x8960 8) (main_arg2 : FVec F S12x8960 .bf16) (main_arg3 : IVec S3x1536x2 8) (main_arg4 : IVec S3x8960x2 8) (main_arg5 : IVec S3x1536x4 32) (main_arg6 : IVec S3x8960x4 32) (main_arg7 : IVec S3x1536x10 32) (main_arg8 : IVec S3x8960x10 32) (main_arg9 : FVec F S3x192 .bf16) (main_arg10 : FVec F S3x192 .bf16) (main_arg11 : FVec F S3x192 .f32) (main_arg12 : IVec S6 32) : IVec S6 1 :=
  let main_c : IVec S_ 32 := constantI S_ 32 0#32
  let main_v0 : IVec S6 32 := broadcastInDim S6 ![] bcast_S_S6 main_c
  let main_v1 : IVec S6 1 := cmpi .sge main_arg12 main_v0
  let main_c_0 : IVec S_ 32 := constantI S_ 32 3#32
  let main_v2 : IVec S6 32 := broadcastInDim S6 ![] bcast_S_S6 main_c_0
  let main_v3 : IVec S6 1 := cmpi .slt main_arg12 main_v2
  let main_v4 : IVec S6 1 := andi main_v1 main_v3
  main_v4
-- ==== Kernel.lean ====
abbrev S6x256x1536 : Shape := ⟨3, ![6, 256, 1536]⟩
abbrev S768x8960 : Shape := ⟨2, ![768, 8960]⟩
abbrev S12x8960 : Shape := ⟨2, ![12, 8960]⟩
abbrev S3x1536x2 : Shape := ⟨3, ![3, 1536, 2]⟩
abbrev S3x8960x2 : Shape := ⟨3, ![3, 8960, 2]⟩
abbrev S3x1536x4 : Shape := ⟨3, ![3, 1536, 4]⟩
abbrev S3x8960x4 : Shape := ⟨3, ![3, 8960, 4]⟩
abbrev S3x1536x10 : Shape := ⟨3, ![3, 1536, 10]⟩
abbrev S3x8960x10 : Shape := ⟨3, ![3, 8960, 10]⟩
abbrev S3x192 : Shape := ⟨2, ![3, 192]⟩
abbrev S6 : Shape := ⟨1, ![6]⟩
abbrev S2x3x1536 : Shape := ⟨3, ![2, 3, 1536]⟩
abbrev S2x3x8960 : Shape := ⟨3, ![2, 3, 8960]⟩
abbrev S10x3x1536 : Shape := ⟨3, ![10, 3, 1536]⟩
abbrev S10x3x8960 : Shape := ⟨3, ![10, 3, 8960]⟩
abbrev S3x4x1536 : Shape := ⟨3, ![3, 4, 1536]⟩
abbrev S3x4x8960 : Shape := ⟨3, ![3, 4, 8960]⟩
abbrev S6x256x8960 : Shape := ⟨3, ![6, 256, 8960]⟩
abbrev S768x1280 : Shape := ⟨2, ![768, 1280]⟩
abbrev S12x1280 : Shape := ⟨2, ![12, 1280]⟩
abbrev S2x3x1280 : Shape := ⟨3, ![2, 3, 1280]⟩
abbrev S3x4x1280 : Shape := ⟨3, ![3, 4, 1280]⟩
abbrev S10x3x1280 : Shape := ⟨3, ![10, 3, 1280]⟩
abbrev S6x256x1280 : Shape := ⟨3, ![6, 256, 1280]⟩
abbrev S6x256x256 : Shape := ⟨3, ![6, 256, 256]⟩
abbrev S3x256x1536 : Shape := ⟨3, ![3, 256, 1536]⟩
abbrev S3x256 : Shape := ⟨2, ![3, 256]⟩
abbrev S3x64 : Shape := ⟨2, ![3, 64]⟩
abbrev S1x1x1536 : Shape := ⟨3, ![1, 1, 1536]⟩
abbrev S1x1536 : Shape := ⟨2, ![1, 1536]⟩
abbrev S8x1536 : Shape := ⟨2, ![8, 1536]⟩
abbrev S16x1536 : Shape := ⟨2, ![16, 1536]⟩
abbrev S1x3x1536 : Shape := ⟨3, ![1, 3, 1536]⟩
abbrev S3x1536 : Shape := ⟨2, ![3, 1536]⟩
abbrev S256x1536 : Shape := ⟨2, ![256, 1536]⟩
abbrev S1x256x1536 : Shape := ⟨3, ![1, 256, 1536]⟩
abbrev S1 : Shape := ⟨1, ![1]⟩
abbrev S256x256 : Shape := ⟨2, ![256, 256]⟩
abbrev S1x256 : Shape := ⟨2, ![1, 256]⟩
abbrev S1x256x256 : Shape := ⟨3, ![1, 256, 256]⟩
abbrev S768x256 : Shape := ⟨2, ![768, 256]⟩
abbrev S12x256 : Shape := ⟨2, ![12, 256]⟩
abbrev S1536x256 : Shape := ⟨2, ![1536, 256]⟩
abbrev S128x256 : Shape := ⟨2, ![128, 256]⟩
abbrev S1x1x256 : Shape := ⟨3, ![1, 1, 256]⟩
abbrev S8x256 : Shape := ⟨2, ![8, 256]⟩
abbrev S16x256 : Shape := ⟨2, ![16, 256]⟩
abbrev S1x3x256 : Shape := ⟨3, ![1, 3, 256]⟩

abbrev nBuf : Space → Nat
  | .hbm => 20
  | .vmem => 22
  | .smem => 1
  | _ => 0

abbrev bufTy : (tb : Table) → Fin (tcTables nBuf tb) → BufTy
  | .hbm, ⟨0, _⟩ => ⟨S6x256x1536, .bf16⟩
  | .hbm, ⟨1, _⟩ => ⟨S768x8960, .i8⟩
  | .hbm, ⟨2, _⟩ => ⟨S12x8960, .bf16⟩
  | .hbm, ⟨3, _⟩ => ⟨S3x1536x2, .i8⟩
  | .hbm, ⟨4, _⟩ => ⟨S3x8960x2, .i8⟩
  | .hbm, ⟨5, _⟩ => ⟨S3x1536x4, .i32⟩
  | .hbm, ⟨6, _⟩ => ⟨S3x8960x4, .i32⟩
  | .hbm, ⟨7, _⟩ => ⟨S3x1536x10, .i32⟩
  | .hbm, ⟨8, _⟩ => ⟨S3x8960x10, .i32⟩
  | .hbm, ⟨9, _⟩ => ⟨S3x192, .bf16⟩
  | .hbm, ⟨10, _⟩ => ⟨S3x192, .bf16⟩
  | .hbm, ⟨11, _⟩ => ⟨S3x192, .f32⟩
  | .hbm, ⟨12, _⟩ => ⟨S6, .i32⟩
  | .hbm, ⟨13, _⟩ => ⟨S2x3x1536, .i8⟩
  | .hbm, ⟨14, _⟩ => ⟨S2x3x8960, .i8⟩
  | .hbm, ⟨15, _⟩ => ⟨S10x3x1536, .i32⟩
  | .hbm, ⟨16, _⟩ => ⟨S10x3x8960, .i32⟩
  | .hbm, ⟨17, _⟩ => ⟨S3x4x1536, .i32⟩
  | .hbm, ⟨18, _⟩ => ⟨S3x4x8960, .i32⟩
  | .hbm, ⟨19, _⟩ => ⟨S6x256x8960, .bf16⟩
  | .local _ .vmem, ⟨0, _⟩ => ⟨S6x256x1536, .bf16⟩
  | .local _ .vmem, ⟨1, _⟩ => ⟨S768x1280, .i8⟩
  | .local _ .vmem, ⟨2, _⟩ => ⟨S768x1280, .i8⟩
  | .local _ .vmem, ⟨3, _⟩ => ⟨S12x1280, .bf16⟩
  | .local _ .vmem, ⟨4, _⟩ => ⟨S12x1280, .bf16⟩
  | .local _ .vmem, ⟨5, _⟩ => ⟨S2x3x1536, .i8⟩
  | .local _ .vmem, ⟨6, _⟩ => ⟨S2x3x1280, .i8⟩
  | .local _ .vmem, ⟨7, _⟩ => ⟨S2x3x1280, .i8⟩
  | .local _ .vmem, ⟨8, _⟩ => ⟨S3x4x1536, .i32⟩
  | .local _ .vmem, ⟨9, _⟩ => ⟨S3x4x1280, .i32⟩
  | .local _ .vmem, ⟨10, _⟩ => ⟨S3x4x1280, .i32⟩
  | .local _ .vmem, ⟨11, _⟩ => ⟨S10x3x1536, .i32⟩
  | .local _ .vmem, ⟨12, _⟩ => ⟨S10x3x1280, .i32⟩
  | .local _ .vmem, ⟨13, _⟩ => ⟨S10x3x1280, .i32⟩
  | .local _ .vmem, ⟨14, _⟩ => ⟨S3x192, .bf16⟩
  | .local _ .vmem, ⟨15, _⟩ => ⟨S3x192, .bf16⟩
  | .local _ .vmem, ⟨16, _⟩ => ⟨S3x192, .f32⟩
  | .local _ .vmem, ⟨17, _⟩ => ⟨S6x256x1280, .bf16⟩
  | .local _ .vmem, ⟨18, _⟩ => ⟨S6x256x1280, .bf16⟩
  | .local _ .vmem, ⟨19, _⟩ => ⟨S6x256x256, .bf16⟩
  | .local _ .vmem, ⟨20, _⟩ => ⟨S3x256x1536, .bf16⟩
  | .local _ .vmem, ⟨21, _⟩ => ⟨S3x256, .f32⟩
  | .local _ .smem, ⟨0, _⟩ => ⟨S6, .i32⟩
  | _, _ => ⟨S6x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v6895 : BitVec 32) : Fin 3 → Nat :=
  let v6898 : Index := Scalar.indexCast v6895
  let c0_3209 : Index := 0#32
  let c0_3210 : Index := 0#32
  ![v6898.toNat, 0, 0]

def k0_off2 (v6895 : BitVec 32) : Fin 2 → Nat :=
  let v6902 : Index := Scalar.indexCast v6895
  let c0_3212 : Index := 0#32
  ![v6902.toNat, 0]

def k0_chk1 (i : grid0.Coords) (v6895 : BitVec 32) : Prop :=
  (∀ (k0_h1 : k0_cond1 i = 1#1), ∀ a, (k0_off1 v6895) a + S1x256x1536.size a ≤ S3x256x1536.size a) ∧
  (∀ (k0_h1 : k0_cond1 i = 1#1), ∀ a, (k0_off2 v6895) a + S1x256.size a ≤ S3x256.size a)
theorem k0_off1_inb : ∀ (i : grid0.Coords) (v6895 : BitVec 32) (k0_hw1 : k0_chk1 i v6895), ∀ (k0_h1 : k0_cond1 i = 1#1), ∀ a, (k0_off1 v6895) a + S1x256x1536.size a ≤ S3x256x1536.size a := fun i v6895 k0_hw1 k0_h1 => k0_hw1.1 k0_h1
theorem k0_off2_inb : ∀ (i : grid0.Coords) (v6895 : BitVec 32) (k0_hw1 : k0_chk1 i v6895), ∀ (k0_h1 : k0_cond1 i = 1#1), ∀ a, (k0_off2 v6895) a + S1x256.size a ≤ S3x256.size a := fun i v6895 k0_hw1 k0_h1 => k0_hw1.2 k0_h1

def k0_off3 (v6910 : BitVec 32) : Fin 3 → Nat :=
  let v6913 : Index := Scalar.indexCast v6910
  let c0_3220 : Index := 0#32
  let c0_3221 : Index := 0#32
  ![v6913.toNat, 0, 0]

def k0_off4 (v6910 : BitVec 32) : Fin 2 → Nat :=
  let v6917 : Index := Scalar.indexCast v6910
  let c0_3223 : Index := 0#32
  ![v6917.toNat, 0]

def k0_chk2 (i : grid0.Coords) (v6910 : BitVec 32) : Prop :=
  (∀ (k0_h1 : k0_cond1 i = 1#1), ∀ a, (k0_off3 v6910) a + S1x256x1536.size a ≤ S3x256x1536.size a) ∧
  (∀ (k0_h1 : k0_cond1 i = 1#1), ∀ a, (k0_off4 v6910) a + S1x256.size a ≤ S3x256.size a)
theorem k0_off3_inb : ∀ (i : grid0.Coords) (v6910 : BitVec 32) (k0_hw2 : k0_chk2 i v6910), ∀ (k0_h1 : k0_cond1 i = 1#1), ∀ a, (k0_off3 v6910) a + S1x256x1536.size a ≤ S3x256x1536.size a := fun i v6910 k0_hw2 k0_h1 => k0_hw2.1 k0_h1
theorem k0_off4_inb : ∀ (i : grid0.Coords) (v6910 : BitVec 32) (k0_hw2 : k0_chk2 i v6910), ∀ (k0_h1 : k0_cond1 i = 1#1), ∀ a, (k0_off4 v6910) a + S1x256.size a ≤ S3x256.size a := fun i v6910 k0_hw2 k0_h1 => k0_hw2.2 k0_h1

def k0_off5 (v6925 : BitVec 32) : Fin 3 → Nat :=
  let v6928 : Index := Scalar.indexCast v6925
  let c0_3231 : Index := 0#32
  let c0_3232 : Index := 0#32
  ![v6928.toNat, 0, 0]

def k0_off6 (v6925 : BitVec 32) : Fin 2 → Nat :=
  let v6932 : Index := Scalar.indexCast v6925
  let c0_3234 : Index := 0#32
  ![v6932.toNat, 0]

def k0_chk3 (i : grid0.Coords) (v6925 : BitVec 32) : Prop :=
  (∀ (k0_h1 : k0_cond1 i = 1#1), ∀ a, (k0_off5 v6925) a + S1x256x1536.size a ≤ S3x256x1536.size a) ∧
  (∀ (k0_h1 : k0_cond1 i = 1#1), ∀ a, (k0_off6 v6925) a + S1x256.size a ≤ S3x256.size a)
theorem k0_off5_inb : ∀ (i : grid0.Coords) (v6925 : BitVec 32) (k0_hw3 : k0_chk3 i v6925), ∀ (k0_h1 : k0_cond1 i = 1#1), ∀ a, (k0_off5 v6925) a + S1x256x1536.size a ≤ S3x256x1536.size a := fun i v6925 k0_hw3 k0_h1 => k0_hw3.1 k0_h1
theorem k0_off6_inb : ∀ (i : grid0.Coords) (v6925 : BitVec 32) (k0_hw3 : k0_chk3 i v6925), ∀ (k0_h1 : k0_cond1 i = 1#1), ∀ a, (k0_off6 v6925) a + S1x256.size a ≤ S3x256.size a := fun i v6925 k0_hw3 k0_h1 => k0_hw3.2 k0_h1

def k0_off7 (v6940 : BitVec 32) : Fin 3 → Nat :=
  let v6943 : Index := Scalar.indexCast v6940
  let c0_3242 : Index := 0#32
  let c0_3243 : Index := 0#32
  ![v6943.toNat, 0, 0]

def k0_off8 (v6940 : BitVec 32) : Fin 2 → Nat :=
  let v6947 : Index := Scalar.indexCast v6940
  let c0_3245 : Index := 0#32
  ![v6947.toNat, 0]

def k0_chk4 (i : grid0.Coords) (v6940 : BitVec 32) : Prop :=
  (∀ (k0_h1 : k0_cond1 i = 1#1), ∀ a, (k0_off7 v6940) a + S1x256x1536.size a ≤ S3x256x1536.size a) ∧
  (∀ (k0_h1 : k0_cond1 i = 1#1), ∀ a, (k0_off8 v6940) a + S1x256.size a ≤ S3x256.size a)
theorem k0_off7_inb : ∀ (i : grid0.Coords) (v6940 : BitVec 32) (k0_hw4 : k0_chk4 i v6940), ∀ (k0_h1 : k0_cond1 i = 1#1), ∀ a, (k0_off7 v6940) a + S1x256x1536.size a ≤ S3x256x1536.size a := fun i v6940 k0_hw4 k0_h1 => k0_hw4.1 k0_h1
theorem k0_off8_inb : ∀ (i : grid0.Coords) (v6940 : BitVec 32) (k0_hw4 : k0_chk4 i v6940), ∀ (k0_h1 : k0_cond1 i = 1#1), ∀ a, (k0_off8 v6940) a + S1x256.size a ≤ S3x256.size a := fun i v6940 k0_hw4 k0_h1 => k0_hw4.2 k0_h1

def k0_off9 (v6955 : BitVec 32) : Fin 3 → Nat :=
  let v6958 : Index := Scalar.indexCast v6955
  let c0_3253 : Index := 0#32
  let c0_3254 : Index := 0#32
  ![v6958.toNat, 0, 0]

def k0_off10 (v6955 : BitVec 32) : Fin 2 → Nat :=
  let v6962 : Index := Scalar.indexCast v6955
  let c0_3256 : Index := 0#32
  ![v6962.toNat, 0]

def k0_chk5 (i : grid0.Coords) (v6955 : BitVec 32) : Prop :=
  (∀ (k0_h1 : k0_cond1 i = 1#1), ∀ a, (k0_off9 v6955) a + S1x256x1536.size a ≤ S3x256x1536.size a) ∧
  (∀ (k0_h1 : k0_cond1 i = 1#1), ∀ a, (k0_off10 v6955) a + S1x256.size a ≤ S3x256.size a)
theorem k0_off9_inb : ∀ (i : grid0.Coords) (v6955 : BitVec 32) (k0_hw5 : k0_chk5 i v6955), ∀ (k0_h1 : k0_cond1 i = 1#1), ∀ a, (k0_off9 v6955) a + S1x256x1536.size a ≤ S3x256x1536.size a := fun i v6955 k0_hw5 k0_h1 => k0_hw5.1 k0_h1
theorem k0_off10_inb : ∀ (i : grid0.Coords) (v6955 : BitVec 32) (k0_hw5 : k0_chk5 i v6955), ∀ (k0_h1 : k0_cond1 i = 1#1), ∀ a, (k0_off10 v6955) a + S1x256.size a ≤ S3x256.size a := fun i v6955 k0_hw5 k0_h1 => k0_hw5.2 k0_h1

def k0_off11 (v6970 : BitVec 32) : Fin 3 → Nat :=
  let v6973 : Index := Scalar.indexCast v6970
  let c0_3264 : Index := 0#32
  let c0_3265 : Index := 0#32
  ![v6973.toNat, 0, 0]

def k0_off12 (v6970 : BitVec 32) : Fin 2 → Nat :=
  let v6977 : Index := Scalar.indexCast v6970
  let c0_3267 : Index := 0#32
  ![v6977.toNat, 0]

def k0_chk6 (i : grid0.Coords) (v6970 : BitVec 32) : Prop :=
  (∀ (k0_h1 : k0_cond1 i = 1#1), ∀ a, (k0_off11 v6970) a + S1x256x1536.size a ≤ S3x256x1536.size a) ∧
  (∀ (k0_h1 : k0_cond1 i = 1#1), ∀ a, (k0_off12 v6970) a + S1x256.size a ≤ S3x256.size a)
theorem k0_off11_inb : ∀ (i : grid0.Coords) (v6970 : BitVec 32) (k0_hw6 : k0_chk6 i v6970), ∀ (k0_h1 : k0_cond1 i = 1#1), ∀ a, (k0_off11 v6970) a + S1x256x1536.size a ≤ S3x256x1536.size a := fun i v6970 k0_hw6 k0_h1 => k0_hw6.1 k0_h1
theorem k0_off12_inb : ∀ (i : grid0.Coords) (v6970 : BitVec 32) (k0_hw6 : k0_chk6 i v6970), ∀ (k0_h1 : k0_cond1 i = 1#1), ∀ a, (k0_off12 v6970) a + S1x256.size a ≤ S3x256.size a := fun i v6970 k0_hw6 k0_h1 => k0_hw6.2 k0_h1

def k0_off13 (v1076 : BitVec 32) : Fin 3 → Nat :=
  let v1077 : Index := Scalar.indexCast v1076
  let c0_443 : Index := 0#32
  let c0_444 : Index := 0#32
  ![v1077.toNat, 0, 0]

def k0_chk7 (v1076 : BitVec 32) : Prop :=
  (∀ a, (k0_off13 v1076) a + S1x256x256.size a ≤ S3x256x1536.size a)
theorem k0_off13_inb : ∀ (v1076 : BitVec 32) (k0_hw7 : k0_chk7 v1076), ∀ a, (k0_off13 v1076) a + S1x256x256.size a ≤ S3x256x1536.size a := fun v1076 k0_hw7 => k0_hw7

def k0_off14 (v1091 : BitVec 32) : Fin 3 → Nat :=
  let v1092 : Index := Scalar.indexCast v1091
  let c0_457 : Index := 0#32
  let c0_458 : Index := 0#32
  ![v1092.toNat, 0, 0]

def k0_chk8 (v1091 : BitVec 32) : Prop :=
  (∀ a, (k0_off14 v1091) a + S1x256x256.size a ≤ S3x256x1536.size a)
theorem k0_off14_inb : ∀ (v1091 : BitVec 32) (k0_hw8 : k0_chk8 v1091), ∀ a, (k0_off14 v1091) a + S1x256x256.size a ≤ S3x256x1536.size a := fun v1091 k0_hw8 => k0_hw8

def k0_off15 (v1106 : BitVec 32) : Fin 3 → Nat :=
  let v1107 : Index := Scalar.indexCast v1106
  let c0_471 : Index := 0#32
  let c0_472 : Index := 0#32
  ![v1107.toNat, 0, 0]

def k0_chk9 (v1106 : BitVec 32) : Prop :=
  (∀ a, (k0_off15 v1106) a + S1x256x256.size a ≤ S3x256x1536.size a)
theorem k0_off15_inb : ∀ (v1106 : BitVec 32) (k0_hw9 : k0_chk9 v1106), ∀ a, (k0_off15 v1106) a + S1x256x256.size a ≤ S3x256x1536.size a := fun v1106 k0_hw9 => k0_hw9

def k0_off16 (v1121 : BitVec 32) : Fin 3 → Nat :=
  let v1122 : Index := Scalar.indexCast v1121
  let c0_485 : Index := 0#32
  let c0_486 : Index := 0#32
  ![v1122.toNat, 0, 0]

def k0_chk10 (v1121 : BitVec 32) : Prop :=
  (∀ a, (k0_off16 v1121) a + S1x256x256.size a ≤ S3x256x1536.size a)
theorem k0_off16_inb : ∀ (v1121 : BitVec 32) (k0_hw10 : k0_chk10 v1121), ∀ a, (k0_off16 v1121) a + S1x256x256.size a ≤ S3x256x1536.size a := fun v1121 k0_hw10 => k0_hw10

def k0_off17 (v1136 : BitVec 32) : Fin 3 → Nat :=
  let v1137 : Index := Scalar.indexCast v1136
  let c0_499 : Index := 0#32
  let c0_500 : Index := 0#32
  ![v1137.toNat, 0, 0]

def k0_chk11 (v1136 : BitVec 32) : Prop :=
  (∀ a, (k0_off17 v1136) a + S1x256x256.size a ≤ S3x256x1536.size a)
theorem k0_off17_inb : ∀ (v1136 : BitVec 32) (k0_hw11 : k0_chk11 v1136), ∀ a, (k0_off17 v1136) a + S1x256x256.size a ≤ S3x256x1536.size a := fun v1136 k0_hw11 => k0_hw11

def k0_off18 (v1151 : BitVec 32) : Fin 3 → Nat :=
  let v1152 : Index := Scalar.indexCast v1151
  let c0_513 : Index := 0#32
  let c0_514 : Index := 0#32
  ![v1152.toNat, 0, 0]

def k0_chk12 (v1151 : BitVec 32) : Prop :=
  (∀ a, (k0_off18 v1151) a + S1x256x256.size a ≤ S3x256x1536.size a)
theorem k0_off18_inb : ∀ (v1151 : BitVec 32) (k0_hw12 : k0_chk12 v1151), ∀ a, (k0_off18 v1151) a + S1x256x256.size a ≤ S3x256x1536.size a := fun v1151 k0_hw12 => k0_hw12

def k0_off19 (v2239 : BitVec 32) : Fin 3 → Nat :=
  let v2240 : Index := Scalar.indexCast v2239
  let c0_993 : Index := 0#32
  let c256_994 : Index := 256#32
  ![v2240.toNat, 0, 256]

def k0_chk13 (v2239 : BitVec 32) : Prop :=
  (∀ a, (k0_off19 v2239) a + S1x256x256.size a ≤ S3x256x1536.size a)
theorem k0_off19_inb : ∀ (v2239 : BitVec 32) (k0_hw13 : k0_chk13 v2239), ∀ a, (k0_off19 v2239) a + S1x256x256.size a ≤ S3x256x1536.size a := fun v2239 k0_hw13 => k0_hw13

def k0_off20 (v2254 : BitVec 32) : Fin 3 → Nat :=
  let v2255 : Index := Scalar.indexCast v2254
  let c0_1007 : Index := 0#32
  let c256_1008 : Index := 256#32
  ![v2255.toNat, 0, 256]

def k0_chk14 (v2254 : BitVec 32) : Prop :=
  (∀ a, (k0_off20 v2254) a + S1x256x256.size a ≤ S3x256x1536.size a)
theorem k0_off20_inb : ∀ (v2254 : BitVec 32) (k0_hw14 : k0_chk14 v2254), ∀ a, (k0_off20 v2254) a + S1x256x256.size a ≤ S3x256x1536.size a := fun v2254 k0_hw14 => k0_hw14

def k0_off21 (v2269 : BitVec 32) : Fin 3 → Nat :=
  let v2270 : Index := Scalar.indexCast v2269
  let c0_1021 : Index := 0#32
  let c256_1022 : Index := 256#32
  ![v2270.toNat, 0, 256]

def k0_chk15 (v2269 : BitVec 32) : Prop :=
  (∀ a, (k0_off21 v2269) a + S1x256x256.size a ≤ S3x256x1536.size a)
theorem k0_off21_inb : ∀ (v2269 : BitVec 32) (k0_hw15 : k0_chk15 v2269), ∀ a, (k0_off21 v2269) a + S1x256x256.size a ≤ S3x256x1536.size a := fun v2269 k0_hw15 => k0_hw15

def k0_off22 (v2284 : BitVec 32) : Fin 3 → Nat :=
  let v2285 : Index := Scalar.indexCast v2284
  let c0_1035 : Index := 0#32
  let c256_1036 : Index := 256#32
  ![v2285.toNat, 0, 256]

def k0_chk16 (v2284 : BitVec 32) : Prop :=
  (∀ a, (k0_off22 v2284) a + S1x256x256.size a ≤ S3x256x1536.size a)
theorem k0_off22_inb : ∀ (v2284 : BitVec 32) (k0_hw16 : k0_chk16 v2284), ∀ a, (k0_off22 v2284) a + S1x256x256.size a ≤ S3x256x1536.size a := fun v2284 k0_hw16 => k0_hw16

def k0_off23 (v2299 : BitVec 32) : Fin 3 → Nat :=
  let v2300 : Index := Scalar.indexCast v2299
  let c0_1049 : Index := 0#32
  let c256_1050 : Index := 256#32
  ![v2300.toNat, 0, 256]

def k0_chk17 (v2299 : BitVec 32) : Prop :=
  (∀ a, (k0_off23 v2299) a + S1x256x256.size a ≤ S3x256x1536.size a)
theorem k0_off23_inb : ∀ (v2299 : BitVec 32) (k0_hw17 : k0_chk17 v2299), ∀ a, (k0_off23 v2299) a + S1x256x256.size a ≤ S3x256x1536.size a := fun v2299 k0_hw17 => k0_hw17

def k0_off24 (v2314 : BitVec 32) : Fin 3 → Nat :=
  let v2315 : Index := Scalar.indexCast v2314
  let c0_1063 : Index := 0#32
  let c256_1064 : Index := 256#32
  ![v2315.toNat, 0, 256]

def k0_chk18 (v2314 : BitVec 32) : Prop :=
  (∀ a, (k0_off24 v2314) a + S1x256x256.size a ≤ S3x256x1536.size a)
theorem k0_off24_inb : ∀ (v2314 : BitVec 32) (k0_hw18 : k0_chk18 v2314), ∀ a, (k0_off24 v2314) a + S1x256x256.size a ≤ S3x256x1536.size a := fun v2314 k0_hw18 => k0_hw18

def k0_off25 (v3402 : BitVec 32) : Fin 3 → Nat :=
  let v3403 : Index := Scalar.indexCast v3402
  let c0_1543 : Index := 0#32
  let c512_1544 : Index := 512#32
  ![v3403.toNat, 0, 512]

def k0_chk19 (v3402 : BitVec 32) : Prop :=
  (∀ a, (k0_off25 v3402) a + S1x256x256.size a ≤ S3x256x1536.size a)
theorem k0_off25_inb : ∀ (v3402 : BitVec 32) (k0_hw19 : k0_chk19 v3402), ∀ a, (k0_off25 v3402) a + S1x256x256.size a ≤ S3x256x1536.size a := fun v3402 k0_hw19 => k0_hw19

def k0_off26 (v3417 : BitVec 32) : Fin 3 → Nat :=
  let v3418 : Index := Scalar.indexCast v3417
  let c0_1557 : Index := 0#32
  let c512_1558 : Index := 512#32
  ![v3418.toNat, 0, 512]

def k0_chk20 (v3417 : BitVec 32) : Prop :=
  (∀ a, (k0_off26 v3417) a + S1x256x256.size a ≤ S3x256x1536.size a)
theorem k0_off26_inb : ∀ (v3417 : BitVec 32) (k0_hw20 : k0_chk20 v3417), ∀ a, (k0_off26 v3417) a + S1x256x256.size a ≤ S3x256x1536.size a := fun v3417 k0_hw20 => k0_hw20

def k0_off27 (v3432 : BitVec 32) : Fin 3 → Nat :=
  let v3433 : Index := Scalar.indexCast v3432
  let c0_1571 : Index := 0#32
  let c512_1572 : Index := 512#32
  ![v3433.toNat, 0, 512]

def k0_chk21 (v3432 : BitVec 32) : Prop :=
  (∀ a, (k0_off27 v3432) a + S1x256x256.size a ≤ S3x256x1536.size a)
theorem k0_off27_inb : ∀ (v3432 : BitVec 32) (k0_hw21 : k0_chk21 v3432), ∀ a, (k0_off27 v3432) a + S1x256x256.size a ≤ S3x256x1536.size a := fun v3432 k0_hw21 => k0_hw21

def k0_off28 (v3447 : BitVec 32) : Fin 3 → Nat :=
  let v3448 : Index := Scalar.indexCast v3447
  let c0_1585 : Index := 0#32
  let c512_1586 : Index := 512#32
  ![v3448.toNat, 0, 512]

def k0_chk22 (v3447 : BitVec 32) : Prop :=
  (∀ a, (k0_off28 v3447) a + S1x256x256.size a ≤ S3x256x1536.size a)
theorem k0_off28_inb : ∀ (v3447 : BitVec 32) (k0_hw22 : k0_chk22 v3447), ∀ a, (k0_off28 v3447) a + S1x256x256.size a ≤ S3x256x1536.size a := fun v3447 k0_hw22 => k0_hw22

def k0_off29 (v3462 : BitVec 32) : Fin 3 → Nat :=
  let v3463 : Index := Scalar.indexCast v3462
  let c0_1599 : Index := 0#32
  let c512_1600 : Index := 512#32
  ![v3463.toNat, 0, 512]

def k0_chk23 (v3462 : BitVec 32) : Prop :=
  (∀ a, (k0_off29 v3462) a + S1x256x256.size a ≤ S3x256x1536.size a)
theorem k0_off29_inb : ∀ (v3462 : BitVec 32) (k0_hw23 : k0_chk23 v3462), ∀ a, (k0_off29 v3462) a + S1x256x256.size a ≤ S3x256x1536.size a := fun v3462 k0_hw23 => k0_hw23

def k0_off30 (v3477 : BitVec 32) : Fin 3 → Nat :=
  let v3478 : Index := Scalar.indexCast v3477
  let c0_1613 : Index := 0#32
  let c512_1614 : Index := 512#32
  ![v3478.toNat, 0, 512]

def k0_chk24 (v3477 : BitVec 32) : Prop :=
  (∀ a, (k0_off30 v3477) a + S1x256x256.size a ≤ S3x256x1536.size a)
theorem k0_off30_inb : ∀ (v3477 : BitVec 32) (k0_hw24 : k0_chk24 v3477), ∀ a, (k0_off30 v3477) a + S1x256x256.size a ≤ S3x256x1536.size a := fun v3477 k0_hw24 => k0_hw24

def k0_off31 (v4565 : BitVec 32) : Fin 3 → Nat :=
  let v4566 : Index := Scalar.indexCast v4565
  let c0_2093 : Index := 0#32
  let c768_2094 : Index := 768#32
  ![v4566.toNat, 0, 768]

def k0_chk25 (v4565 : BitVec 32) : Prop :=
  (∀ a, (k0_off31 v4565) a + S1x256x256.size a ≤ S3x256x1536.size a)
theorem k0_off31_inb : ∀ (v4565 : BitVec 32) (k0_hw25 : k0_chk25 v4565), ∀ a, (k0_off31 v4565) a + S1x256x256.size a ≤ S3x256x1536.size a := fun v4565 k0_hw25 => k0_hw25

def k0_off32 (v4580 : BitVec 32) : Fin 3 → Nat :=
  let v4581 : Index := Scalar.indexCast v4580
  let c0_2107 : Index := 0#32
  let c768_2108 : Index := 768#32
  ![v4581.toNat, 0, 768]

def k0_chk26 (v4580 : BitVec 32) : Prop :=
  (∀ a, (k0_off32 v4580) a + S1x256x256.size a ≤ S3x256x1536.size a)
theorem k0_off32_inb : ∀ (v4580 : BitVec 32) (k0_hw26 : k0_chk26 v4580), ∀ a, (k0_off32 v4580) a + S1x256x256.size a ≤ S3x256x1536.size a := fun v4580 k0_hw26 => k0_hw26

def k0_off33 (v4595 : BitVec 32) : Fin 3 → Nat :=
  let v4596 : Index := Scalar.indexCast v4595
  let c0_2121 : Index := 0#32
  let c768_2122 : Index := 768#32
  ![v4596.toNat, 0, 768]

def k0_chk27 (v4595 : BitVec 32) : Prop :=
  (∀ a, (k0_off33 v4595) a + S1x256x256.size a ≤ S3x256x1536.size a)
theorem k0_off33_inb : ∀ (v4595 : BitVec 32) (k0_hw27 : k0_chk27 v4595), ∀ a, (k0_off33 v4595) a + S1x256x256.size a ≤ S3x256x1536.size a := fun v4595 k0_hw27 => k0_hw27

def k0_off34 (v4610 : BitVec 32) : Fin 3 → Nat :=
  let v4611 : Index := Scalar.indexCast v4610
  let c0_2135 : Index := 0#32
  let c768_2136 : Index := 768#32
  ![v4611.toNat, 0, 768]

def k0_chk28 (v4610 : BitVec 32) : Prop :=
  (∀ a, (k0_off34 v4610) a + S1x256x256.size a ≤ S3x256x1536.size a)
theorem k0_off34_inb : ∀ (v4610 : BitVec 32) (k0_hw28 : k0_chk28 v4610), ∀ a, (k0_off34 v4610) a + S1x256x256.size a ≤ S3x256x1536.size a := fun v4610 k0_hw28 => k0_hw28

def k0_off35 (v4625 : BitVec 32) : Fin 3 → Nat :=
  let v4626 : Index := Scalar.indexCast v4625
  let c0_2149 : Index := 0#32
  let c768_2150 : Index := 768#32
  ![v4626.toNat, 0, 768]

def k0_chk29 (v4625 : BitVec 32) : Prop :=
  (∀ a, (k0_off35 v4625) a + S1x256x256.size a ≤ S3x256x1536.size a)
theorem k0_off35_inb : ∀ (v4625 : BitVec 32) (k0_hw29 : k0_chk29 v4625), ∀ a, (k0_off35 v4625) a + S1x256x256.size a ≤ S3x256x1536.size a := fun v4625 k0_hw29 => k0_hw29

def k0_off36 (v4640 : BitVec 32) : Fin 3 → Nat :=
  let v4641 : Index := Scalar.indexCast v4640
  let c0_2163 : Index := 0#32
  let c768_2164 : Index := 768#32
  ![v4641.toNat, 0, 768]

def k0_chk30 (v4640 : BitVec 32) : Prop :=
  (∀ a, (k0_off36 v4640) a + S1x256x256.size a ≤ S3x256x1536.size a)
theorem k0_off36_inb : ∀ (v4640 : BitVec 32) (k0_hw30 : k0_chk30 v4640), ∀ a, (k0_off36 v4640) a + S1x256x256.size a ≤ S3x256x1536.size a := fun v4640 k0_hw30 => k0_hw30

def k0_off37 (v5728 : BitVec 32) : Fin 3 → Nat :=
  let v5729 : Index := Scalar.indexCast v5728
  let c0_2643 : Index := 0#32
  let c1024_2644 : Index := 1024#32
  ![v5729.toNat, 0, 1024]

def k0_chk31 (v5728 : BitVec 32) : Prop :=
  (∀ a, (k0_off37 v5728) a + S1x256x256.size a ≤ S3x256x1536.size a)
theorem k0_off37_inb : ∀ (v5728 : BitVec 32) (k0_hw31 : k0_chk31 v5728), ∀ a, (k0_off37 v5728) a + S1x256x256.size a ≤ S3x256x1536.size a := fun v5728 k0_hw31 => k0_hw31

def k0_off38 (v5743 : BitVec 32) : Fin 3 → Nat :=
  let v5744 : Index := Scalar.indexCast v5743
  let c0_2657 : Index := 0#32
  let c1024_2658 : Index := 1024#32
  ![v5744.toNat, 0, 1024]

def k0_chk32 (v5743 : BitVec 32) : Prop :=
  (∀ a, (k0_off38 v5743) a + S1x256x256.size a ≤ S3x256x1536.size a)
theorem k0_off38_inb : ∀ (v5743 : BitVec 32) (k0_hw32 : k0_chk32 v5743), ∀ a, (k0_off38 v5743) a + S1x256x256.size a ≤ S3x256x1536.size a := fun v5743 k0_hw32 => k0_hw32

def k0_off39 (v5758 : BitVec 32) : Fin 3 → Nat :=
  let v5759 : Index := Scalar.indexCast v5758
  let c0_2671 : Index := 0#32
  let c1024_2672 : Index := 1024#32
  ![v5759.toNat, 0, 1024]

def k0_chk33 (v5758 : BitVec 32) : Prop :=
  (∀ a, (k0_off39 v5758) a + S1x256x256.size a ≤ S3x256x1536.size a)
theorem k0_off39_inb : ∀ (v5758 : BitVec 32) (k0_hw33 : k0_chk33 v5758), ∀ a, (k0_off39 v5758) a + S1x256x256.size a ≤ S3x256x1536.size a := fun v5758 k0_hw33 => k0_hw33

def k0_off40 (v5773 : BitVec 32) : Fin 3 → Nat :=
  let v5774 : Index := Scalar.indexCast v5773
  let c0_2685 : Index := 0#32
  let c1024_2686 : Index := 1024#32
  ![v5774.toNat, 0, 1024]

def k0_chk34 (v5773 : BitVec 32) : Prop :=
  (∀ a, (k0_off40 v5773) a + S1x256x256.size a ≤ S3x256x1536.size a)
theorem k0_off40_inb : ∀ (v5773 : BitVec 32) (k0_hw34 : k0_chk34 v5773), ∀ a, (k0_off40 v5773) a + S1x256x256.size a ≤ S3x256x1536.size a := fun v5773 k0_hw34 => k0_hw34

def k0_off41 (v5788 : BitVec 32) : Fin 3 → Nat :=
  let v5789 : Index := Scalar.indexCast v5788
  let c0_2699 : Index := 0#32
  let c1024_2700 : Index := 1024#32
  ![v5789.toNat, 0, 1024]

def k0_chk35 (v5788 : BitVec 32) : Prop :=
  (∀ a, (k0_off41 v5788) a + S1x256x256.size a ≤ S3x256x1536.size a)
theorem k0_off41_inb : ∀ (v5788 : BitVec 32) (k0_hw35 : k0_chk35 v5788), ∀ a, (k0_off41 v5788) a + S1x256x256.size a ≤ S3x256x1536.size a := fun v5788 k0_hw35 => k0_hw35

def k0_off42 (v5803 : BitVec 32) : Fin 3 → Nat :=
  let v5804 : Index := Scalar.indexCast v5803
  let c0_2713 : Index := 0#32
  let c1024_2714 : Index := 1024#32
  ![v5804.toNat, 0, 1024]

def k0_chk36 (v5803 : BitVec 32) : Prop :=
  (∀ a, (k0_off42 v5803) a + S1x256x256.size a ≤ S3x256x1536.size a)
theorem k0_off42_inb : ∀ (v5803 : BitVec 32) (k0_hw36 : k0_chk36 v5803), ∀ a, (k0_off42 v5803) a + S1x256x256.size a ≤ S3x256x1536.size a := fun v5803 k0_hw36 => k0_hw36

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x3x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x3x1280 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x4x1536 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x4x1280 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S10x3x1536 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10x3x1280 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6x256x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S6x256x1536 : Shape := ⟨3, ![6, 256, 1536]⟩
abbrev S768x8960 : Shape := ⟨2, ![768, 8960]⟩
abbrev S12x8960 : Shape := ⟨2, ![12, 8960]⟩
abbrev S3x1536x2 : Shape := ⟨3, ![3, 1536, 2]⟩
abbrev S3x8960x2 : Shape := ⟨3, ![3, 8960, 2]⟩
abbrev S3x1536x4 : Shape := ⟨3, ![3, 1536, 4]⟩
abbrev S3x8960x4 : Shape := ⟨3, ![3, 8960, 4]⟩
abbrev S3x1536x10 : Shape := ⟨3, ![3, 1536, 10]⟩
abbrev S3x8960x10 : Shape := ⟨3, ![3, 8960, 10]⟩
abbrev S3x192 : Shape := ⟨2, ![3, 192]⟩
abbrev S6 : Shape := ⟨1, ![6]⟩
abbrev S_ : Shape := ⟨0, ![]⟩
abbrev S12x1x8960 : Shape := ⟨3, ![12, 1, 8960]⟩
abbrev S12x64x8960 : Shape := ⟨3, ![12, 64, 8960]⟩
abbrev S6x256x768 : Shape := ⟨3, ![6, 256, 768]⟩
abbrev S6x256x8960 : Shape := ⟨3, ![6, 256, 8960]⟩
abbrev S6x1 : Shape := ⟨2, ![6, 1]⟩
abbrev S6x1536x2 : Shape := ⟨3, ![6, 1536, 2]⟩
abbrev S6x8960x2 : Shape := ⟨3, ![6, 8960, 2]⟩
abbrev S6x1536x4 : Shape := ⟨3, ![6, 1536, 4]⟩
abbrev S6x8960x4 : Shape := ⟨3, ![6, 8960, 4]⟩
abbrev S6x1536x10 : Shape := ⟨3, ![6, 1536, 10]⟩
abbrev S6x8960x10 : Shape := ⟨3, ![6, 8960, 10]⟩
abbrev S6x192 : Shape := ⟨2, ![6, 192]⟩
abbrev S6x256x2 : Shape := ⟨3, ![6, 256, 2]⟩
abbrev S10 : Shape := ⟨1, ![10]⟩
abbrev S6x1536x4x1 : Shape := ⟨4, ![6, 1536, 4, 1]⟩
abbrev S1x1x1x10 : Shape := ⟨4, ![1, 1, 1, 10]⟩
abbrev S6x1536x4x10 : Shape := ⟨4, ![6, 1536, 4, 10]⟩
abbrev S6x256x4x10 : Shape := ⟨4, ![6, 256, 4, 10]⟩
abbrev S16 : Shape := ⟨1, ![16]⟩
abbrev S6x1536x10x1 : Shape := ⟨4, ![6, 1536, 10, 1]⟩
abbrev S1x1x1x16 : Shape := ⟨4, ![1, 1, 1, 16]⟩
abbrev S6x1536x10x16 : Shape := ⟨4, ![6, 1536, 10, 16]⟩
abbrev S6x256x10x16 : Shape := ⟨4, ![6, 256, 10, 16]⟩
abbrev S6x2 : Shape := ⟨2, ![6, 2]⟩
abbrev S6x32 : Shape := ⟨2, ![6, 32]⟩
abbrev S6x40 : Shape := ⟨2, ![6, 40]⟩
abbrev S6x4x10 : Shape := ⟨3, ![6, 4, 10]⟩
abbrev S6x158 : Shape := ⟨2, ![6, 158]⟩
abbrev S6x160 : Shape := ⟨2, ![6, 160]⟩
abbrev S6x10x16 : Shape := ⟨3, ![6, 10, 16]⟩
abbrev S6x1x2 : Shape := ⟨3, ![6, 1, 2]⟩
abbrev S6x1x4x10 : Shape := ⟨4, ![6, 1, 4, 10]⟩
abbrev S6x1x10x16 : Shape := ⟨4, ![6, 1, 10, 16]⟩
abbrev S6x8960x4x1 : Shape := ⟨4, ![6, 8960, 4, 1]⟩
abbrev S6x8960x4x10 : Shape := ⟨4, ![6, 8960, 4, 10]⟩
abbrev S6x8960x10x1 : Shape := ⟨4, ![6, 8960, 10, 1]⟩
abbrev S6x8960x10x16 : Shape := ⟨4, ![6, 8960, 10, 16]⟩

abbrev nBuf : Space → Nat
  | .hbm => 267
  | .vmem => 0
  | .smem => 0
  | _ => 0

abbrev hbmTy0_0 (i : Nat) : BufTy := match i % 128 with
  | 0 => ⟨S6x256x1536, .bf16⟩
  | 1 => ⟨S768x8960, .i8⟩
  | 2 => ⟨S12x8960, .bf16⟩
  | 3 => ⟨S3x1536x2, .i8⟩
  | 4 => ⟨S3x8960x2, .i8⟩
  | 5 => ⟨S3x1536x4, .i32⟩
  | 6 => ⟨S3x8960x4, .i32⟩
  | 7 => ⟨S3x1536x10, .i32⟩
  | 8 => ⟨S3x8960x10, .i32⟩
  | 9 => ⟨S3x192, .bf16⟩
  | 10 => ⟨S3x192, .bf16⟩
  | 11 => ⟨S3x192, .f32⟩
  | 12 => ⟨S6, .i32⟩
  | 13 => ⟨S768x8960, .i32⟩
  | 14 => ⟨S_, .i32⟩
  | 15 => ⟨S768x8960, .i32⟩
  | 16 => ⟨S768x8960, .i32⟩
  | 17 => ⟨S_, .i32⟩
  | 18 => ⟨S768x8960, .i32⟩
  | 19 => ⟨S768x8960, .i32⟩
  | 20 => ⟨S_, .i32⟩
  | 21 => ⟨S768x8960, .i32⟩
  | 22 => ⟨S768x8960, .i32⟩
  | 23 => ⟨S_, .i32⟩
  | 24 => ⟨S768x8960, .i32⟩
  | 25 => ⟨S768x8960, .i1⟩
  | 26 => ⟨S768x8960, .i32⟩
  | 27 => ⟨S_, .i32⟩
  | 28 => ⟨S768x8960, .i32⟩
  | 29 => ⟨S768x8960, .i32⟩
  | 30 => ⟨S768x8960, .i32⟩
  | 31 => ⟨S768x8960, .i32⟩
  | 32 => ⟨S_, .i32⟩
  | 33 => ⟨S768x8960, .i32⟩
  | 34 => ⟨S768x8960, .i1⟩
  | 35 => ⟨S768x8960, .i32⟩
  | 36 => ⟨S_, .i32⟩
  | 37 => ⟨S768x8960, .i32⟩
  | 38 => ⟨S768x8960, .i32⟩
  | 39 => ⟨S768x8960, .i32⟩
  | 40 => ⟨S768x8960, .i32⟩
  | 41 => ⟨S12x1x8960, .bf16⟩
  | 42 => ⟨S768x8960, .bf16⟩
  | 43 => ⟨S12x64x8960, .bf16⟩
  | 44 => ⟨S12x64x8960, .bf16⟩
  | 45 => ⟨S12x64x8960, .bf16⟩
  | 46 => ⟨S768x8960, .bf16⟩
  | 47 => ⟨S768x8960, .bf16⟩
  | 48 => ⟨S12x64x8960, .bf16⟩
  | 49 => ⟨S12x64x8960, .bf16⟩
  | 50 => ⟨S12x64x8960, .bf16⟩
  | 51 => ⟨S768x8960, .bf16⟩
  | 52 => ⟨S6x256x768, .bf16⟩
  | 53 => ⟨S6x256x8960, .f32⟩
  | 54 => ⟨S6x256x768, .bf16⟩
  | 55 => ⟨S6x256x8960, .f32⟩
  | 56 => ⟨S_, .i32⟩
  | 57 => ⟨S6, .i32⟩
  | 58 => ⟨S6, .i1⟩
  | 59 => ⟨S_, .i32⟩
  | 60 => ⟨S6, .i32⟩
  | 61 => ⟨S6, .i32⟩
  | 62 => ⟨S6, .i32⟩
  | 63 => ⟨S6x1, .i32⟩
  | 64 => ⟨S6x1536x2, .i8⟩
  | 65 => ⟨S_, .i32⟩
  | 66 => ⟨S6, .i32⟩
  | 67 => ⟨S6, .i1⟩
  | 68 => ⟨S_, .i32⟩
  | 69 => ⟨S6, .i32⟩
  | 70 => ⟨S6, .i32⟩
  | 71 => ⟨S6, .i32⟩
  | 72 => ⟨S6x1, .i32⟩
  | 73 => ⟨S6x8960x2, .i8⟩
  | 74 => ⟨S_, .i32⟩
  | 75 => ⟨S6, .i32⟩
  | 76 => ⟨S6, .i1⟩
  | 77 => ⟨S_, .i32⟩
  | 78 => ⟨S6, .i32⟩
  | 79 => ⟨S6, .i32⟩
  | 80 => ⟨S6, .i32⟩
  | 81 => ⟨S6x1, .i32⟩
  | 82 => ⟨S6x1536x4, .i32⟩
  | 83 => ⟨S_, .i32⟩
  | 84 => ⟨S6, .i32⟩
  | 85 => ⟨S6, .i1⟩
  | 86 => ⟨S_, .i32⟩
  | 87 => ⟨S6, .i32⟩
  | 88 => ⟨S6, .i32⟩
  | 89 => ⟨S6, .i32⟩
  | 90 => ⟨S6x1, .i32⟩
  | 91 => ⟨S6x8960x4, .i32⟩
  | 92 => ⟨S_, .i32⟩
  | 93 => ⟨S6, .i32⟩
  | 94 => ⟨S6, .i1⟩
  | 95 => ⟨S_, .i32⟩
  | 96 => ⟨S6, .i32⟩
  | 97 => ⟨S6, .i32⟩
  | 98 => ⟨S6, .i32⟩
  | 99 => ⟨S6x1, .i32⟩
  | 100 => ⟨S6x1536x10, .i32⟩
  | 101 => ⟨S_, .i32⟩
  | 102 => ⟨S6, .i32⟩
  | 103 => ⟨S6, .i1⟩
  | 104 => ⟨S_, .i32⟩
  | 105 => ⟨S6, .i32⟩
  | 106 => ⟨S6, .i32⟩
  | 107 => ⟨S6, .i32⟩
  | 108 => ⟨S6x1, .i32⟩
  | 109 => ⟨S6x8960x10, .i32⟩
  | 110 => ⟨S_, .i32⟩
  | 111 => ⟨S6, .i32⟩
  | 112 => ⟨S6, .i1⟩
  | 113 => ⟨S_, .i32⟩
  | 114 => ⟨S6, .i32⟩
  | 115 => ⟨S6, .i32⟩
  | 116 => ⟨S6, .i32⟩
  | 117 => ⟨S6x1, .i32⟩
  | 118 => ⟨S6x192, .bf16⟩
  | 119 => ⟨S_, .i32⟩
  | 120 => ⟨S6, .i32⟩
  | 121 => ⟨S6, .i1⟩
  | 122 => ⟨S_, .i32⟩
  | 123 => ⟨S6, .i32⟩
  | 124 => ⟨S6, .i32⟩
  | 125 => ⟨S6, .i32⟩
  | 126 => ⟨S6x1, .i32⟩
  | 127 => ⟨S6x192, .bf16⟩
  | _ => ⟨S6x256x1536, .bf16⟩

abbrev hbmTy0_1 (i : Nat) : BufTy := match i % 128 with
  | 0 => ⟨S_, .i32⟩
  | 1 => ⟨S6, .i32⟩
  | 2 => ⟨S6, .i1⟩
  | 3 => ⟨S_, .i32⟩
  | 4 => ⟨S6, .i32⟩
  | 5 => ⟨S6, .i32⟩
  | 6 => ⟨S6, .i32⟩
  | 7 => ⟨S6x1, .i32⟩
  | 8 => ⟨S6x192, .f32⟩
  | 9 => ⟨S6x1536x2, .i32⟩
  | 10 => ⟨S6x1536x2, .bf16⟩
  | 11 => ⟨S6x256x2, .f32⟩
  | 12 => ⟨S10, .i32⟩
  | 13 => ⟨S_, .i32⟩
  | 14 => ⟨S10, .i32⟩
  | 15 => ⟨S10, .i32⟩
  | 16 => ⟨S6x1536x4x1, .i32⟩
  | 17 => ⟨S1x1x1x10, .i32⟩
  | 18 => ⟨S6x1536x4x10, .i32⟩
  | 19 => ⟨S6x1536x4x10, .i32⟩
  | 20 => ⟨S6x1536x4x10, .i32⟩
  | 21 => ⟨S_, .i32⟩
  | 22 => ⟨S6x1536x4x10, .i32⟩
  | 23 => ⟨S6x1536x4x10, .i32⟩
  | 24 => ⟨S_, .i32⟩
  | 25 => ⟨S6x1536x4x10, .i32⟩
  | 26 => ⟨S6x1536x4x10, .i1⟩
  | 27 => ⟨S6x1536x4x10, .i32⟩
  | 28 => ⟨S_, .i32⟩
  | 29 => ⟨S6x1536x4x10, .i32⟩
  | 30 => ⟨S6x1536x4x10, .i32⟩
  | 31 => ⟨S6x1536x4x10, .i32⟩
  | 32 => ⟨S6x1536x4x10, .i32⟩
  | 33 => ⟨S6x1536x4x10, .bf16⟩
  | 34 => ⟨S6x256x4x10, .f32⟩
  | 35 => ⟨S16, .i32⟩
  | 36 => ⟨S_, .i32⟩
  | 37 => ⟨S16, .i32⟩
  | 38 => ⟨S16, .i32⟩
  | 39 => ⟨S6x1536x10x1, .i32⟩
  | 40 => ⟨S1x1x1x16, .i32⟩
  | 41 => ⟨S6x1536x10x16, .i32⟩
  | 42 => ⟨S6x1536x10x16, .i32⟩
  | 43 => ⟨S6x1536x10x16, .i32⟩
  | 44 => ⟨S_, .i32⟩
  | 45 => ⟨S6x1536x10x16, .i32⟩
  | 46 => ⟨S6x1536x10x16, .i32⟩
  | 47 => ⟨S_, .i32⟩
  | 48 => ⟨S6x1536x10x16, .i32⟩
  | 49 => ⟨S6x1536x10x16, .i1⟩
  | 50 => ⟨S6x1536x10x16, .i32⟩
  | 51 => ⟨S_, .i32⟩
  | 52 => ⟨S6x1536x10x16, .i32⟩
  | 53 => ⟨S6x1536x10x16, .i32⟩
  | 54 => ⟨S6x1536x10x16, .i32⟩
  | 55 => ⟨S6x1536x10x16, .i32⟩
  | 56 => ⟨S6x1536x10x16, .bf16⟩
  | 57 => ⟨S6x256x10x16, .f32⟩
  | 58 => ⟨S6x192, .f32⟩
  | 59 => ⟨S6x192, .f32⟩
  | 60 => ⟨S6x192, .f32⟩
  | 61 => ⟨S6x192, .f32⟩
  | 62 => ⟨S6x2, .f32⟩
  | 63 => ⟨S6x32, .f32⟩
  | 64 => ⟨S_, .i32⟩
  | 65 => ⟨S_, .f32⟩
  | 66 => ⟨S6x40, .f32⟩
  | 67 => ⟨S6x4x10, .f32⟩
  | 68 => ⟨S6x158, .f32⟩
  | 69 => ⟨S_, .i32⟩
  | 70 => ⟨S_, .f32⟩
  | 71 => ⟨S6x160, .f32⟩
  | 72 => ⟨S6x10x16, .f32⟩
  | 73 => ⟨S6x1x2, .f32⟩
  | 74 => ⟨S6x256x2, .f32⟩
  | 75 => ⟨S6x256x2, .f32⟩
  | 76 => ⟨S6x256x2, .bf16⟩
  | 77 => ⟨S6x1x4x10, .f32⟩
  | 78 => ⟨S6x256x4x10, .f32⟩
  | 79 => ⟨S6x256x4x10, .f32⟩
  | 80 => ⟨S6x256x4x10, .bf16⟩
  | 81 => ⟨S6x1x10x16, .f32⟩
  | 82 => ⟨S6x256x10x16, .f32⟩
  | 83 => ⟨S6x256x10x16, .f32⟩
  | 84 => ⟨S6x256x10x16, .bf16⟩
  | 85 => ⟨S6x8960x2, .i32⟩
  | 86 => ⟨S6x8960x2, .bf16⟩
  | 87 => ⟨S6x256x8960, .f32⟩
  | 88 => ⟨S10, .i32⟩
  | 89 => ⟨S_, .i32⟩
  | 90 => ⟨S10, .i32⟩
  | 91 => ⟨S10, .i32⟩
  | 92 => ⟨S6x8960x4x1, .i32⟩
  | 93 => ⟨S1x1x1x10, .i32⟩
  | 94 => ⟨S6x8960x4x10, .i32⟩
  | 95 => ⟨S6x8960x4x10, .i32⟩
  | 96 => ⟨S6x8960x4x10, .i32⟩
  | 97 => ⟨S_, .i32⟩
  | 98 => ⟨S6x8960x4x10, .i32⟩
  | 99 => ⟨S6x8960x4x10, .i32⟩
  | 100 => ⟨S_, .i32⟩
  | 101 => ⟨S6x8960x4x10, .i32⟩
  | 102 => ⟨S6x8960x4x10, .i1⟩
  | 103 => ⟨S6x8960x4x10, .i32⟩
  | 104 => ⟨S_, .i32⟩
  | 105 => ⟨S6x8960x4x10, .i32⟩
  | 106 => ⟨S6x8960x4x10, .i32⟩
  | 107 => ⟨S6x8960x4x10, .i32⟩
  | 108 => ⟨S6x8960x4x10, .i32⟩
  | 109 => ⟨S6x8960x4x10, .bf16⟩
  | 110 => ⟨S6x256x8960, .f32⟩
  | 111 => ⟨S16, .i32⟩
  | 112 => ⟨S_, .i32⟩
  | 113 => ⟨S16, .i32⟩
  | 114 => ⟨S16, .i32⟩
  | 115 => ⟨S6x8960x10x1, .i32⟩
  | 116 => ⟨S1x1x1x16, .i32⟩
  | 117 => ⟨S6x8960x10x16, .i32⟩
  | 118 => ⟨S6x8960x10x16, .i32⟩
  | 119 => ⟨S6x8960x10x16, .i32⟩
  | 120 => ⟨S_, .i32⟩
  | 121 => ⟨S6x8960x10x16, .i32⟩
  | 122 => ⟨S6x8960x10x16, .i32⟩
  | 123 => ⟨S_, .i32⟩
  | 124 => ⟨S6x8960x10x16, .i32⟩
  | 125 => ⟨S6x8960x10x16, .i1⟩
  | 126 => ⟨S6x8960x10x16, .i32⟩
  | 127 => ⟨S_, .i32⟩
  | _ => ⟨S6x256x1536, .bf16⟩

abbrev hbmTy0_2 (i : Nat) : BufTy := match i % 128 with
  | 0 => ⟨S6x8960x10x16, .i32⟩
  | 1 => ⟨S6x8960x10x16, .i32⟩
  | 2 => ⟨S6x8960x10x16, .i32⟩
  | 3 => ⟨S6x8960x10x16, .i32⟩
  | 4 => ⟨S6x8960x10x16, .bf16⟩
  | 5 => ⟨S6x256x8960, .f32⟩
  | 6 => ⟨S6x256x8960, .f32⟩
  | 7 => ⟨S6x256x8960, .f32⟩
  | 8 => ⟨S6x256x8960, .f32⟩
  | 9 => ⟨S6x256x8960, .f32⟩
  | 10 => ⟨S6x256x8960, .bf16⟩
  | _ => ⟨S6x256x1536, .bf16⟩

abbrev hbmTy (i : Nat) : BufTy := match i / 128 with
  | 0 => hbmTy0_0 i
  | 1 => hbmTy0_1 i
  | 2 => hbmTy0_2 i
  | _ => ⟨S6x256x1536, .bf16⟩

abbrev bufTy : (tb : Table) → Fin (tcTables nBuf tb) → BufTy
  | .hbm, ⟨i, _⟩ => hbmTy i
  | _, _ => ⟨S6x256x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_c_19 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_c_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_22 : Ref sig .tc := ⟨.hbm, 128, rfl⟩
abbrev main_v92 : Ref sig .tc := ⟨.hbm, 129, rfl⟩
abbrev main_v93 : Ref sig .tc := ⟨.hbm, 130, rfl⟩
abbrev main_c_23 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_24 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_25 : Ref sig .tc := ⟨.hbm, 149, rfl⟩
abbrev main_v110 : Ref sig .tc := ⟨.hbm, 150, rfl⟩
abbrev main_v111 : Ref sig .tc := ⟨.hbm, 151, rfl⟩
abbrev main_c_26 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_27 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_c_28 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_29 : Ref sig .tc := ⟨.hbm, 172, rfl⟩
abbrev main_v129 : Ref sig .tc := ⟨.hbm, 173, rfl⟩
abbrev main_v130 : Ref sig .tc := ⟨.hbm, 174, rfl⟩
abbrev main_c_30 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_31 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_c_32 : Ref sig .tc := ⟨.hbm, 192, rfl⟩
abbrev main_call0_v0 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_33 : Ref sig .tc := ⟨.hbm, 197, rfl⟩
abbrev main_call1_v0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_34 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_c_35 : Ref sig .tc := ⟨.hbm, 225, rfl⟩
abbrev main_v174 : Ref sig .tc := ⟨.hbm, 226, rfl⟩
abbrev main_v175 : Ref sig .tc := ⟨.hbm, 227, rfl⟩
abbrev main_c_36 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_c_37 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_c_38 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_c_39 : Ref sig .tc := ⟨.hbm, 248, rfl⟩
abbrev main_v193 : Ref sig .tc := ⟨.hbm, 249, rfl⟩
abbrev main_v194 : Ref sig .tc := ⟨.hbm, 250, rfl⟩
abbrev main_c_40 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_c_41 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩

abbrev nD : Nat := 1
abbrev τ : Topo := Topo.v7x

variable {F : FTy → Type} [FloatOps F]
-- ==== Proof.Decode.lean ====
/- The decoders of the kernel's body, read at an index: a packed word row into sixteen rows of signed fields, two byte rows into two rows, a
   tile of nibbles into a tile of scaled weights. -/
module

public import proofs.«01_k».proof.Proof.Gen.KernelIdeal
public import Idealize.ShloMosaic.Lib.Pointwise
public import Idealize.ShloMosaic.Lib.BitcastPair

@[expose] public section

set_option maxRecDepth 16384
noncomputable section
namespace Cert.KernelIdeal.Own

open Idealize.ShloMosaic Idealize.ShloMosaic.TcCoe Idealize.SL.Sem Cert.KernelIdeal Cert.KernelIdeal.Gen

local notation "F" => Idealize.ShloMosaic.Ideal

/-- Words read as halves, at a rank-two index: rows `2 r` and `2 r + 1` of a column are the low and the high half of row `r`. -/
theorem bitcast_ix2 {R R2 N : Nat} (x : (⟨2, ![R, N]⟩ : Shape).Idx → BitVec 32) (h : (⟨2, ![R, N]⟩ : Shape).Bitcasts 32 ⟨2, ![R2, N]⟩ 16)
    (q : Fin R2) (n : Fin N) (hq : q.val / 2 < R) :
    bitcast ⟨2, ![R2, N]⟩ 16 x h (ix2 q n) = (x (ix2 ⟨q.val / 2, hq⟩ n)).extractLsb' (16 * (q.val % 2)) 16 := by
  rw [bitcast_32_16]
  have e : (⟨2, ![R2, N]⟩ : Shape).row (ix2 q n) = q.val := rfl
  have e2 : ∀ hp, h.srcIdx (ix2 q n) ((⟨2, ![R2, N]⟩ : Shape).row (ix2 q n) / 2) hp = ix2 ⟨q.val / 2, hq⟩ n := by
    intro hp
    funext a
    match a with
    | ⟨0, _⟩ => rfl
    | ⟨1, _⟩ => rfl
  rw [e2, e]

/-- The sixteen bits that the body leaves at row `q` of the sixteen rows decoded from the word `w`. -/
def halfW (mul msk shl msk2 bias w : BitVec 32) (q : Nat) : BitVec 16 :=
  let p := IntOp.shrsi ArithUnit.vector w (IntOp.minsi (IntOp.muli (BitVec.ofNat 32 (q / 2)) mul) 31#32)
  BitVec.extractLsb' (16 * (q % 2)) 16
    (IntOp.xori (IntOp.ori (IntOp.andi p msk) (IntOp.andi (IntOp.shli ArithUnit.vector p shl) msk2)) bias)

/-- The number at row `q` of the sixteen rows of two-bit fields decoded from `w`. -/
def field2 (w : BitVec 32) (q : Nat) : EReal :=
  Ideal.ofBits .bf16 (halfW 4#32 3#32 14#32 196608#32 1124221698#32 w q) - Ideal.ofBits .bf16 0x4302#16

/-- The number at row `q` of the sixteen rows of three-bit fields decoded from `w`. -/
def field3 (w : BitVec 32) (q : Nat) : EReal :=
  Ideal.ofBits .bf16 (halfW 6#32 7#32 13#32 458752#32 1124352772#32 w q) - Ideal.ofBits .bf16 0x4304#16

/-- The whole number that a byte holds. -/
def byteVal (b : BitVec 8) : EReal := (((b.toInt : ℤ) : ℝ) : EReal)

/-- A byte sign-extended to a word and converted is the whole number that it holds. -/
theorem sitofp_byte (b : BitVec 8) : (FloatOps.sitofp .f32 (b.signExtend 32) : Ideal .f32) = byteVal b := by
  show (((b.signExtend 32).toInt : ℝ) : EReal) = _
  rw [BitVec.toInt_signExtend_of_le (by decide)]
  rfl

/-- The decoded factor at slot `q`: ten words of sixteen two-bit fields, four words of sixteen rows of three-bit fields, two bytes, zeros. -/
def slotVal (X2 : Fin 10 → BitVec 32) (X3 : Fin 4 → BitVec 32) (lo hi : BitVec 8) (q : Nat) : EReal :=
  if h2 : q < 160 then field2 (X2 ⟨q / 16, by omega⟩) (q % 16)
  else if h3 : q < 224 then field3 (X3 ⟨(q - 160) / 16, by omega⟩) ((q - 160) % 16)
  else if q = 224 then byteVal lo else if q = 225 then byteVal hi else 0

section Slots

variable (X2 : Fin 10 → BitVec 32) (X3 : Fin 4 → BitVec 32) (lo hi : BitVec 8) {q : Nat}

/-- Slots below 160 hold the two-bit fields, sixteen slots to a word. -/
theorem slot_two {w : Fin 10} {r : Nat} (h : q < 160) (hw : w.val = q / 16) (hr : r = q % 16) :
    field2 (X2 w) r = slotVal X2 X3 lo hi q := by
  have e : w = ⟨q / 16, by omega⟩ := Fin.ext hw
  rw [hr, e, slotVal, dif_pos h]

/-- Slots 160 to 223 hold the three-bit fields, sixteen slots to a word. -/
theorem slot_three {w : Fin 4} {r : Nat} (h : 160 ≤ q) (h' : q < 224) (hw : w.val = (q - 160) / 16) (hr : r = (q - 160) % 16) :
    field3 (X3 w) r = slotVal X2 X3 lo hi q := by
  have e : w = ⟨(q - 160) / 16, by omega⟩ := Fin.ext hw
  rw [hr, e, slotVal, dif_neg (by omega), dif_pos h']

/-- Slot 224 holds the first byte. -/
theorem slot_lo (h : q = 224) : byteVal lo = slotVal X2 X3 lo hi q := by
  subst h; rfl

/-- Slot 225 holds the second byte. -/
theorem slot_hi (h : q = 225) : byteVal hi = slotVal X2 X3 lo hi q := by
  subst h; rfl

/-- The slots from 226 on hold zero. -/
theorem slot_zero (h : 226 ≤ q) : 0 = slotVal X2 X3 lo hi q := by
  rw [slotVal, dif_neg (by omega), dif_neg (by omega), if_neg (by omega), if_neg (by omega)]

end Slots

/-- An `if` is a value that both its branches are. -/
theorem dite_of {c : Prop} [Decidable c] {α : Type _} {a : c → α} {b : ¬c → α} {v : α} (h1 : ∀ h, a h = v) (h2 : ∀ h, b h = v) :
    dite c a b = v := by
  by_cases h : c
  · rw [dif_pos h]; exact h1 h
  · rw [dif_neg h]; exact h2 h

/-- A conditional has the value that both of its branches have, each under its own assumption. -/
theorem ite_of {c : Prop} [Decidable c] {α : Type _} {a b v : α} (h1 : c → a = v) (h2 : ¬c → b = v) : ite c a b = v := by
  by_cases h : c
  · rw [if_pos h]; exact h1 h
  · rw [if_neg h]; exact h2 h

/-- A row of packed words decoded to sixteen rows, as the body prints it, for tiles of 256 columns. -/
def words256 (mul msk shl msk2 bias : BitVec 32) (cst : BitVec 16) (l : Vec F S1x1x256 .i32) : FVec F S16x256 .bf16 :=
  have v66 : IVec S1x256 32 := shapeCast S1x256 l shapeCasts_S1x1x256_S1x256
  have v67 : IVec S8x256 32 := iota .tc S8x256 32 [0] iota_S8x256_d0_w32
  have v69 : IVec S8x256 32 := muli v67 (broadcast S8x256 mul)
  have v71 : IVec S8x256 32 := minsi v69 (broadcast S8x256 31#32)
  have v72 : IVec S1x256 32 := shapeCast S1x256 v66 shapeCasts_S1x256_S1x256
  have v73 : IVec S8x256 32 := broadcastTo S8x256 v72 broadcasts_S1x256_S8x256
  have v74 : IVec S8x256 32 := shrsi v73 v71
  have v76 : IVec S8x256 32 := andi v74 (broadcast S8x256 msk)
  have v78 : IVec S8x256 32 := shli v74 (broadcast S8x256 shl)
  have v80 : IVec S8x256 32 := andi v78 (broadcast S8x256 msk2)
  have v81 : IVec S8x256 32 := ori v76 v80
  have v83 : IVec S8x256 32 := xori v81 (broadcast S8x256 bias)
  have v84 : FVec F S16x256 .bf16 := bitcastToFloat .bf16 (bitcast S16x256 16 v83 bitcasts_S8x256_w32_S16x256_w16)
  subf v84 (broadcast S16x256 (Scalar.ofBits .bf16 cst))

/-- `words256` at an index is a function of the one word above it. -/
theorem words256_apply (mul msk shl msk2 bias : BitVec 32) (cst : BitVec 16) (l : Vec F S1x1x256 .i32) (q : Fin 16) (n : Fin 256) :
    words256 mul msk shl msk2 bias cst l (ix2 q n)
      = Ideal.ofBits .bf16 (halfW mul msk shl msk2 bias (l (ix3 0 0 n)) q) - Ideal.ofBits .bf16 cst := by
  unfold words256 halfW
  pointwise
  rw [bitcast_ix2 _ bitcasts_S8x256_w32_S16x256_w16 q n (by omega)]
  pointwise

/-- With the constants for two bits the rows of a decoded word are its two-bit fields (256 columns). -/
theorem words2_256 (l : Vec F S1x1x256 .i32) (q : Fin 16) (n : Fin 256) :
    words256 4#32 3#32 14#32 196608#32 1124221698#32 0x4302#16 l (ix2 q n) = field2 (l (ix3 0 0 n)) q := words256_apply ..

/-- With the constants for three bits the rows of a decoded word are its three-bit fields (256 columns). -/
theorem words3_256 (l : Vec F S1x1x256 .i32) (q : Fin 16) (n : Fin 256) :
    words256 6#32 7#32 13#32 458752#32 1124352772#32 0x4304#16 l (ix2 q n) = field3 (l (ix3 0 0 n)) q := words256_apply ..

/-- Two rows of bytes decoded to sixteen rows, of which the first two are used, as the body prints it. -/
def bytes256 (off : Fin 2 → Nat) (hd : S3x256.Slices off S1x256) (lo hi : Vec F S1x3x256 .i8) : FVec F S16x256 .bf16 :=
  have v379 : IVec S1x256 32 := extractStridedSlice S1x256 off (extsi 32 (shapeCast S3x256 lo shapeCasts_S1x3x256_S3x256) natLt_8_32) hd
  have v380 : IVec S1x256 32 := extractStridedSlice S1x256 off (extsi 32 (shapeCast S3x256 hi shapeCasts_S1x3x256_S3x256) natLt_8_32) hd
  have v381 : FVec F S1x256 .f32 := sitofp .f32 v379
  have v382 : FVec F S1x256 .bf16 := truncf .bf16 v381 bitsLt_bf16_f32
  have v383 : FVec F S1x256 .f32 := sitofp .f32 v380
  have v384 : FVec F S1x256 .bf16 := truncf .bf16 v383 bitsLt_bf16_f32
  have v385 : IVec S16x256 32 := iota .tc S16x256 32 [0] iota_S16x256_d0_w32
  have v387 : IVec S16x256 1 := cmpi .eq v385 (broadcast S16x256 0#32)
  have v389 : FVec F S16x256 .bf16 := broadcastTo S16x256 (shapeCast S1x256 v382 shapeCasts_S1x256_S1x256) broadcasts_S1x256_S16x256
  have v391 : FVec F S16x256 .bf16 := broadcastTo S16x256 (shapeCast S1x256 v384 shapeCasts_S1x256_S1x256) broadcasts_S1x256_S16x256
  have v392 : FVec F S16x256 .bf16 := select v387 v389 v391
  have v394 : IVec S16x256 1 := cmpi .slt v385 (broadcast S16x256 2#32)
  select v394 v392 (broadcast S16x256 (Scalar.ofBits .bf16 0x0000#16))

/-- Of the sixteen rows of decoded bytes the first two are the bytes and the others zero (256 columns). -/
theorem bytes256_apply (d : Fin 3) (hd : S3x256.Slices ![d.val, 0] S1x256) (lo hi : Vec F S1x3x256 .i8) (q : Fin 16) (n : Fin 256) :
    bytes256 ![d.val, 0] hd lo hi (ix2 q n)
      = if q.val = 0 then byteVal (lo (ix3 0 d n)) else if q.val = 1 then byteVal (hi (ix3 0 d n)) else 0 := by
  unfold bytes256
  pointwise
  rw [sitofp_byte, sitofp_byte]
  unfold byteVal
  fin_vals q with hq
  all_goals simp [hq, Scalar.select, IntOp.cmpi]

/-- One decoded factor of 256 columns, as the body stores it. -/
def delta256 (off : Fin 2 → Nat) (hd : S3x256.Slices off S1x256) (a0 a1 a2 a3 a4 a5 a6 a7 a8 a9 b0 b1 b2 b3 : Vec F S1x1x256 .i32)
    (lo hi : Vec F S1x3x256 .i8) : FVec F S1x256x256 .bf16 :=
  shapeCast S1x256x256 (concatenate S256x256 0 [
    ⟨S16x256, words256 4#32 3#32 14#32 196608#32 1124221698#32 0x4302#16 a0⟩,
    ⟨S16x256, words256 4#32 3#32 14#32 196608#32 1124221698#32 0x4302#16 a1⟩,
    ⟨S16x256, words256 4#32 3#32 14#32 196608#32 1124221698#32 0x4302#16 a2⟩,
    ⟨S16x256, words256 4#32 3#32 14#32 196608#32 1124221698#32 0x4302#16 a3⟩,
    ⟨S16x256, words256 4#32 3#32 14#32 196608#32 1124221698#32 0x4302#16 a4⟩,
    ⟨S16x256, words256 4#32 3#32 14#32 196608#32 1124221698#32 0x4302#16 a5⟩,
    ⟨S16x256, words256 4#32 3#32 14#32 196608#32 1124221698#32 0x4302#16 a6⟩,
    ⟨S16x256, words256 4#32 3#32 14#32 196608#32 1124221698#32 0x4302#16 a7⟩,
    ⟨S16x256, words256 4#32 3#32 14#32 196608#32 1124221698#32 0x4302#16 a8⟩,
    ⟨S16x256, words256 4#32 3#32 14#32 196608#32 1124221698#32 0x4302#16 a9⟩,
    ⟨S16x256, words256 6#32 7#32 13#32 458752#32 1124352772#32 0x4304#16 b0⟩,
    ⟨S16x256, words256 6#32 7#32 13#32 458752#32 1124352772#32 0x4304#16 b1⟩,
    ⟨S16x256, words256 6#32 7#32 13#32 458752#32 1124352772#32 0x4304#16 b2⟩,
    ⟨S16x256, words256 6#32 7#32 13#32 458752#32 1124352772#32 0x4304#16 b3⟩,
    ⟨S16x256, bytes256 off hd lo hi⟩, ⟨S16x256, broadcast S16x256 (Scalar.ofBits .bf16 0x0000#16)⟩] concatenates_S16x256_S16x256_S16x256_S16x256_S16x256_S16x256_S16x256_S16x256_S16x256_S16x256_S16x256_S16x256_S16x256_S16x256_S16x256_S16x256_S256x256_d0)
    shapeCasts_S256x256_S1x256x256

set_option maxHeartbeats 800000 in
/-- A decoded delta of 256 columns holds at each slot what the slot stands for. -/
theorem delta256_apply (d : Fin 3) (hd : S3x256.Slices ![d.val, 0] S1x256) (a0 a1 a2 a3 a4 a5 a6 a7 a8 a9 b0 b1 b2 b3 : Vec F S1x1x256 .i32)
    (lo hi : Vec F S1x3x256 .i8) (X2 : Fin 10 → BitVec 32) (X3 : Fin 4 → BitVec 32) (q : Fin 256) (n : Fin 256)
    (ha0 : a0 (ix3 0 0 n) = X2 0)
    (ha1 : a1 (ix3 0 0 n) = X2 1)
    (ha2 : a2 (ix3 0 0 n) = X2 2)
    (ha3 : a3 (ix3 0 0 n) = X2 3)
    (ha4 : a4 (ix3 0 0 n) = X2 4)
    (ha5 : a5 (ix3 0 0 n) = X2 5)
    (ha6 : a6 (ix3 0 0 n) = X2 6)
    (ha7 : a7 (ix3 0 0 n) = X2 7)
    (ha8 : a8 (ix3 0 0 n) = X2 8)
    (ha9 : a9 (ix3 0 0 n) = X2 9)
    (hb0 : b0 (ix3 0 0 n) = X3 0)
    (hb1 : b1 (ix3 0 0 n) = X3 1)
    (hb2 : b2 (ix3 0 0 n) = X3 2)
    (hb3 : b3 (ix3 0 0 n) = X3 3) :
    delta256 ![d.val, 0] hd a0 a1 a2 a3 a4 a5 a6 a7 a8 a9 b0 b1 b2 b3 lo hi (ix3 0 q n)
      = slotVal X2 X3 (lo (ix3 0 d n)) (hi (ix3 0 d n)) q.val := by
  unfold delta256
  pointwise [words2_256, words3_256, bytes256_apply, ha0, ha1, ha2, ha3, ha4, ha5, ha6, ha7, ha8, ha9, hb0, hb1, hb2, hb3]
  repeat' with_reducible first
    | refine dite_of (fun h => ?_) (fun h => ?_)
    | refine ite_of (fun h => ?_) (fun h => ?_)
  all_goals with_reducible first
    | exact slot_two _ _ _ _ (by omega) (by first | omega | (simp; omega)) (by omega)
    | exact slot_three _ _ _ _ (by omega) (by omega) (by first | omega | (simp; omega)) (by omega)
    | exact slot_lo _ _ _ _ (by omega)
    | exact slot_hi _ _ _ _ (by omega)
    | exact slot_zero _ _ _ _ (by omega)

/-- A row of packed words decoded to sixteen rows, as the body prints it, for tiles of 1536 columns. -/
def words1536 (mul msk shl msk2 bias : BitVec 32) (cst : BitVec 16) (l : Vec F S1x1x1536 .i32) : FVec F S16x1536 .bf16 :=
  have v66 : IVec S1x1536 32 := shapeCast S1x1536 l shapeCasts_S1x1x1536_S1x1536
  have v67 : IVec S8x1536 32 := iota .tc S8x1536 32 [0] iota_S8x1536_d0_w32
  have v69 : IVec S8x1536 32 := muli v67 (broadcast S8x1536 mul)
  have v71 : IVec S8x1536 32 := minsi v69 (broadcast S8x1536 31#32)
  have v72 : IVec S1x1536 32 := shapeCast S1x1536 v66 shapeCasts_S1x1536_S1x1536
  have v73 : IVec S8x1536 32 := broadcastTo S8x1536 v72 broadcasts_S1x1536_S8x1536
  have v74 : IVec S8x1536 32 := shrsi v73 v71
  have v76 : IVec S8x1536 32 := andi v74 (broadcast S8x1536 msk)
  have v78 : IVec S8x1536 32 := shli v74 (broadcast S8x1536 shl)
  have v80 : IVec S8x1536 32 := andi v78 (broadcast S8x1536 msk2)
  have v81 : IVec S8x1536 32 := ori v76 v80
  have v83 : IVec S8x1536 32 := xori v81 (broadcast S8x1536 bias)
  have v84 : FVec F S16x1536 .bf16 := bitcastToFloat .bf16 (bitcast S16x1536 16 v83 bitcasts_S8x1536_w32_S16x1536_w16)
  subf v84 (broadcast S16x1536 (Scalar.ofBits .bf16 cst))

/-- `words1536` at an index is a function of the one word above it. -/
theorem words1536_apply (mul msk shl msk2 bias : BitVec 32) (cst : BitVec 16) (l : Vec F S1x1x1536 .i32) (q : Fin 16) (n : Fin 1536) :
    words1536 mul msk shl msk2 bias cst l (ix2 q n)
      = Ideal.ofBits .bf16 (halfW mul msk shl msk2 bias (l (ix3 0 0 n)) q) - Ideal.ofBits .bf16 cst := by
  unfold words1536 halfW
  pointwise
  rw [bitcast_ix2 _ bitcasts_S8x1536_w32_S16x1536_w16 q n (by omega)]
  pointwise

/-- With the constants for two bits the rows of a decoded word are its two-bit fields (1536 columns). -/
theorem words2_1536 (l : Vec F S1x1x1536 .i32) (q : Fin 16) (n : Fin 1536) :
    words1536 4#32 3#32 14#32 196608#32 1124221698#32 0x4302#16 l (ix2 q n) = field2 (l (ix3 0 0 n)) q := words1536_apply ..

/-- With the constants for three bits the rows of a decoded word are its three-bit fields (1536 columns). -/
theorem words3_1536 (l : Vec F S1x1x1536 .i32) (q : Fin 16) (n : Fin 1536) :
    words1536 6#32 7#32 13#32 458752#32 1124352772#32 0x4304#16 l (ix2 q n) = field3 (l (ix3 0 0 n)) q := words1536_apply ..

/-- Two rows of bytes decoded to sixteen rows, of which the first two are used, as the body prints it. -/
def bytes1536 (off : Fin 2 → Nat) (hd : S3x1536.Slices off S1x1536) (lo hi : Vec F S1x3x1536 .i8) : FVec F S16x1536 .bf16 :=
  have v379 : IVec S1x1536 32 := extractStridedSlice S1x1536 off (extsi 32 (shapeCast S3x1536 lo shapeCasts_S1x3x1536_S3x1536) natLt_8_32) hd
  have v380 : IVec S1x1536 32 := extractStridedSlice S1x1536 off (extsi 32 (shapeCast S3x1536 hi shapeCasts_S1x3x1536_S3x1536) natLt_8_32) hd
  have v381 : FVec F S1x1536 .f32 := sitofp .f32 v379
  have v382 : FVec F S1x1536 .bf16 := truncf .bf16 v381 bitsLt_bf16_f32
  have v383 : FVec F S1x1536 .f32 := sitofp .f32 v380
  have v384 : FVec F S1x1536 .bf16 := truncf .bf16 v383 bitsLt_bf16_f32
  have v385 : IVec S16x1536 32 := iota .tc S16x1536 32 [0] iota_S16x1536_d0_w32
  have v387 : IVec S16x1536 1 := cmpi .eq v385 (broadcast S16x1536 0#32)
  have v389 : FVec F S16x1536 .bf16 := broadcastTo S16x1536 (shapeCast S1x1536 v382 shapeCasts_S1x1536_S1x1536) broadcasts_S1x1536_S16x1536
  have v391 : FVec F S16x1536 .bf16 := broadcastTo S16x1536 (shapeCast S1x1536 v384 shapeCasts_S1x1536_S1x1536) broadcasts_S1x1536_S16x1536
  have v392 : FVec F S16x1536 .bf16 := select v387 v389 v391
  have v394 : IVec S16x1536 1 := cmpi .slt v385 (broadcast S16x1536 2#32)
  select v394 v392 (broadcast S16x1536 (Scalar.ofBits .bf16 0x0000#16))

/-- Of the sixteen rows of decoded bytes the first two are the bytes and the others zero (1536 columns). -/
theorem bytes1536_apply (d : Fin 3) (hd : S3x1536.Slices ![d.val, 0] S1x1536) (lo hi : Vec F S1x3x1536 .i8) (q : Fin 16) (n : Fin 1536) :
    bytes1536 ![d.val, 0] hd lo hi (ix2 q n)
      = if q.val = 0 then byteVal (lo (ix3 0 d n)) else if q.val = 1 then byteVal (hi (ix3 0 d n)) else 0 := by
  unfold bytes1536
  pointwise
  rw [sitofp_byte, sitofp_byte]
  unfold byteVal
  fin_vals q with hq
  all_goals simp [hq, Scalar.select, IntOp.cmpi]

/-- One decoded factor of 1536 columns, as the body stores it. -/
def delta1536 (off : Fin 2 → Nat) (hd : S3x1536.Slices off S1x1536) (a0 a1 a2 a3 a4 a5 a6 a7 a8 a9 b0 b1 b2 b3 : Vec F S1x1x1536 .i32)
    (lo hi : Vec F S1x3x1536 .i8) : FVec F S1x256x1536 .bf16 :=
  shapeCast S1x256x1536 (concatenate S256x1536 0 [
    ⟨S16x1536, words1536 4#32 3#32 14#32 196608#32 1124221698#32 0x4302#16 a0⟩,
    ⟨S16x1536, words1536 4#32 3#32 14#32 196608#32 1124221698#32 0x4302#16 a1⟩,
    ⟨S16x1536, words1536 4#32 3#32 14#32 196608#32 1124221698#32 0x4302#16 a2⟩,
    ⟨S16x1536, words1536 4#32 3#32 14#32 196608#32 1124221698#32 0x4302#16 a3⟩,
    ⟨S16x1536, words1536 4#32 3#32 14#32 196608#32 1124221698#32 0x4302#16 a4⟩,
    ⟨S16x1536, words1536 4#32 3#32 14#32 196608#32 1124221698#32 0x4302#16 a5⟩,
    ⟨S16x1536, words1536 4#32 3#32 14#32 196608#32 1124221698#32 0x4302#16 a6⟩,
    ⟨S16x1536, words1536 4#32 3#32 14#32 196608#32 1124221698#32 0x4302#16 a7⟩,
    ⟨S16x1536, words1536 4#32 3#32 14#32 196608#32 1124221698#32 0x4302#16 a8⟩,
    ⟨S16x1536, words1536 4#32 3#32 14#32 196608#32 1124221698#32 0x4302#16 a9⟩,
    ⟨S16x1536, words1536 6#32 7#32 13#32 458752#32 1124352772#32 0x4304#16 b0⟩,
    ⟨S16x1536, words1536 6#32 7#32 13#32 458752#32 1124352772#32 0x4304#16 b1⟩,
    ⟨S16x1536, words1536 6#32 7#32 13#32 458752#32 1124352772#32 0x4304#16 b2⟩,
    ⟨S16x1536, words1536 6#32 7#32 13#32 458752#32 1124352772#32 0x4304#16 b3⟩,
    ⟨S16x1536, bytes1536 off hd lo hi⟩, ⟨S16x1536, broadcast S16x1536 (Scalar.ofBits .bf16 0x0000#16)⟩] concatenates_S16x1536_S16x1536_S16x1536_S16x1536_S16x1536_S16x1536_S16x1536_S16x1536_S16x1536_S16x1536_S16x1536_S16x1536_S16x1536_S16x1536_S16x1536_S16x1536_S256x1536_d0)
    shapeCasts_S256x1536_S1x256x1536

set_option maxHeartbeats 800000 in
/-- A decoded delta of 1536 columns holds at each slot what the slot stands for. -/
theorem delta1536_apply (d : Fin 3) (hd : S3x1536.Slices ![d.val, 0] S1x1536) (a0 a1 a2 a3 a4 a5 a6 a7 a8 a9 b0 b1 b2 b3 : Vec F S1x1x1536 .i32)
    (lo hi : Vec F S1x3x1536 .i8) (X2 : Fin 10 → BitVec 32) (X3 : Fin 4 → BitVec 32) (q : Fin 256) (n : Fin 1536)
    (ha0 : a0 (ix3 0 0 n) = X2 0)
    (ha1 : a1 (ix3 0 0 n) = X2 1)
    (ha2 : a2 (ix3 0 0 n) = X2 2)
    (ha3 : a3 (ix3 0 0 n) = X2 3)
    (ha4 : a4 (ix3 0 0 n) = X2 4)
    (ha5 : a5 (ix3 0 0 n) = X2 5)
    (ha6 : a6 (ix3 0 0 n) = X2 6)
    (ha7 : a7 (ix3 0 0 n) = X2 7)
    (ha8 : a8 (ix3 0 0 n) = X2 8)
    (ha9 : a9 (ix3 0 0 n) = X2 9)
    (hb0 : b0 (ix3 0 0 n) = X3 0)
    (hb1 : b1 (ix3 0 0 n) = X3 1)
    (hb2 : b2 (ix3 0 0 n) = X3 2)
    (hb3 : b3 (ix3 0 0 n) = X3 3) :
    delta1536 ![d.val, 0] hd a0 a1 a2 a3 a4 a5 a6 a7 a8 a9 b0 b1 b2 b3 lo hi (ix3 0 q n)
      = slotVal X2 X3 (lo (ix3 0 d n)) (hi (ix3 0 d n)) q.val := by
  unfold delta1536
  pointwise [words2_1536, words3_1536, bytes1536_apply, ha0, ha1, ha2, ha3, ha4, ha5, ha6, ha7, ha8, ha9, hb0, hb1, hb2, hb3]
  repeat' with_reducible first
    | refine dite_of (fun h => ?_) (fun h => ?_)
    | refine ite_of (fun h => ?_) (fun h => ?_)
  all_goals with_reducible first
    | exact slot_two _ _ _ _ (by omega) (by first | omega | (simp; omega)) (by omega)
    | exact slot_three _ _ _ _ (by omega) (by omega) (by first | omega | (simp; omega)) (by omega)
    | exact slot_lo _ _ _ _ (by omega)
    | exact slot_hi _ _ _ _ (by omega)
    | exact slot_zero _ _ _ _ (by omega)

/-- The nibble at row parity `p` of the byte `b`, decoded. -/
def nibVal (b : BitVec 8) (p : Nat) : EReal :=
  Ideal.ofBits .bf16 (BitVec.extractLsb' (16 * p) 16
      (IntOp.xori (IntOp.andi (IntOp.ori (b.setWidth 32) (IntOp.shli ArithUnit.vector (b.setWidth 32) 12#32)) 983055#32) 1124614920#32))
    - Ideal.ofBits .bf16 0x4308#16

/-- A tile of packed nibbles decoded, as the body prints it. -/
def codeTile (w : Vec F S768x256 .i8) : FVec F S1536x256 .bf16 :=
  have v5 : IVec S768x256 32 := extui 32 w natLt_8_32
  have v7 : IVec S768x256 32 := shli v5 (broadcast S768x256 12#32)
  have v8 : IVec S768x256 32 := ori v5 v7
  have v10 : IVec S768x256 32 := andi v8 (broadcast S768x256 983055#32)
  have v12 : IVec S768x256 32 := xori v10 (broadcast S768x256 1124614920#32)
  have v13 : FVec F S1536x256 .bf16 := bitcastToFloat .bf16 (bitcast S1536x256 16 v12 bitcasts_S768x256_w32_S1536x256_w16)
  subf v13 (broadcast S1536x256 (Scalar.ofBits .bf16 0x4308#16))

/-- Row `k` of the decoded codes is half `k % 2` of the packed byte at row `k / 2`. -/
theorem codeTile_apply (w : Vec F S768x256 .i8) (k : Fin 1536) (n : Fin 256) :
    codeTile w (ix2 k n) = nibVal (w (ix2 ⟨k.val / 2, by omega⟩ n)) (k.val % 2) := by
  unfold codeTile nibVal
  pointwise
  rw [bitcast_ix2 _ bitcasts_S768x256_w32_S1536x256_w16 k n (by omega)]
  pointwise

/-- A product of an element of the tile and one of the scales depends on their rows' numbers only. -/
theorem scaled (C : FVec F S1536x256 .bf16) (s : Vec F S12x256 .bf16) (n : Fin 256) {k : Fin 1536} {g : Fin 12} (k' : Fin 1536) (g' : Fin 12)
    (hk : k'.val = k.val) (hg : g'.val = g.val) : C (ix2 k' n) * s (ix2 g' n) = C (ix2 k n) * s (ix2 g n) := by
  obtain rfl := Fin.ext hk
  obtain rfl := Fin.ext hg
  rfl

/-- The decoded tile scaled by its groups of 128 rows, as the body prints it. -/
def baseTile (w : Vec F S768x256 .i8) (s : Vec F S12x256 .bf16) : FVec F S1536x256 .bf16 :=
  concatenate S1536x256 0 [
    ⟨S128x256, mulf (extractStridedSlice S128x256 ![0, 0] (codeTile w) slices_S1536x256_o0_0_S128x256) (broadcastTo S128x256 (extractStridedSlice S1x256 ![0, 0] s slices_S12x256_o0_0_S1x256) broadcasts_S1x256_S128x256)⟩,
    ⟨S128x256, mulf (extractStridedSlice S128x256 ![128, 0] (codeTile w) slices_S1536x256_o128_0_S128x256) (broadcastTo S128x256 (extractStridedSlice S1x256 ![1, 0] s slices_S12x256_o1_0_S1x256) broadcasts_S1x256_S128x256)⟩,
    ⟨S128x256, mulf (extractStridedSlice S128x256 ![256, 0] (codeTile w) slices_S1536x256_o256_0_S128x256) (broadcastTo S128x256 (extractStridedSlice S1x256 ![2, 0] s slices_S12x256_o2_0_S1x256) broadcasts_S1x256_S128x256)⟩,
    ⟨S128x256, mulf (extractStridedSlice S128x256 ![384, 0] (codeTile w) slices_S1536x256_o384_0_S128x256) (broadcastTo S128x256 (extractStridedSlice S1x256 ![3, 0] s slices_S12x256_o3_0_S1x256) broadcasts_S1x256_S128x256)⟩,
    ⟨S128x256, mulf (extractStridedSlice S128x256 ![512, 0] (codeTile w) slices_S1536x256_o512_0_S128x256) (broadcastTo S128x256 (extractStridedSlice S1x256 ![4, 0] s slices_S12x256_o4_0_S1x256) broadcasts_S1x256_S128x256)⟩,
    ⟨S128x256, mulf (extractStridedSlice S128x256 ![640, 0] (codeTile w) slices_S1536x256_o640_0_S128x256) (broadcastTo S128x256 (extractStridedSlice S1x256 ![5, 0] s slices_S12x256_o5_0_S1x256) broadcasts_S1x256_S128x256)⟩,
    ⟨S128x256, mulf (extractStridedSlice S128x256 ![768, 0] (codeTile w) slices_S1536x256_o768_0_S128x256) (broadcastTo S128x256 (extractStridedSlice S1x256 ![6, 0] s slices_S12x256_o6_0_S1x256) broadcasts_S1x256_S128x256)⟩,
    ⟨S128x256, mulf (extractStridedSlice S128x256 ![896, 0] (codeTile w) slices_S1536x256_o896_0_S128x256) (broadcastTo S128x256 (extractStridedSlice S1x256 ![7, 0] s slices_S12x256_o7_0_S1x256) broadcasts_S1x256_S128x256)⟩,
    ⟨S128x256, mulf (extractStridedSlice S128x256 ![1024, 0] (codeTile w) slices_S1536x256_o1024_0_S128x256) (broadcastTo S128x256 (extractStridedSlice S1x256 ![8, 0] s slices_S12x256_o8_0_S1x256) broadcasts_S1x256_S128x256)⟩,
    ⟨S128x256, mulf (extractStridedSlice S128x256 ![1152, 0] (codeTile w) slices_S1536x256_o1152_0_S128x256) (broadcastTo S128x256 (extractStridedSlice S1x256 ![9, 0] s slices_S12x256_o9_0_S1x256) broadcasts_S1x256_S128x256)⟩,
    ⟨S128x256, mulf (extractStridedSlice S128x256 ![1280, 0] (codeTile w) slices_S1536x256_o1280_0_S128x256) (broadcastTo S128x256 (extractStridedSlice S1x256 ![10, 0] s slices_S12x256_o10_0_S1x256) broadcasts_S1x256_S128x256)⟩,
    ⟨S128x256, mulf (extractStridedSlice S128x256 ![1408, 0] (codeTile w) slices_S1536x256_o1408_0_S128x256) (broadcastTo S128x256 (extractStridedSlice S1x256 ![11, 0] s slices_S12x256_o11_0_S1x256) broadcasts_S1x256_S128x256)⟩] concatenates_S128x256_S128x256_S128x256_S128x256_S128x256_S128x256_S128x256_S128x256_S128x256_S128x256_S128x256_S128x256_S1536x256_d0

set_option maxHeartbeats 800000 in
/-- A decoded base weight is its code times the scale of its group of 128 rows. -/
theorem baseTile_apply (w : Vec F S768x256 .i8) (s : Vec F S12x256 .bf16) (k : Fin 1536) (n : Fin 256) :
    baseTile w s (ix2 k n) = nibVal (w (ix2 ⟨k.val / 2, by omega⟩ n)) (k.val % 2) * s (ix2 ⟨k.val / 128, by omega⟩ n) := by
  rw [← codeTile_apply]
  unfold baseTile
  generalize codeTile w = C
  pointwise
  repeat' with_reducible refine dite_of (fun h => ?_) (fun h => ?_)
  all_goals exact scaled C s n _ _ (by first | rfl | (dsimp only; omega)) (by first | omega | (simp; omega))

end Cert.KernelIdeal.Own
-- ==== Proof.Hyps.lean ====
/- The precondition (every word of `delta_idx` lies in [0, 3)) implies every side condition the kernel's body assumes:
   each is the bound of a dynamic read at such a word. Once for the kernel as printed, once for its idealization. -/
module

public import proofs.«01_k».proof.Defs
public import proofs.«01_k».proof.Proof.Gen.Kernel.Frame
public import proofs.«01_k».proof.Proof.Gen.KernelIdeal.Frame
public import proofs.«01_k».proof.Proof.Gen.Pre_idx_in_range

@[expose] public section

set_option maxRecDepth 16384

noncomputable section

namespace Cert.Kernel.Own

open Idealize.ShloMosaic Idealize.ShloMosaic.TcCoe Idealize.SL.Sem Cert.Kernel Cert.Kernel.Gen

/-- A word below 3 names a slice of the decoded factor that lies inside it, at any of the column offsets the body uses. -/
theorem slice_inb (k : Nat) (hk : k + 256 ≤ 1536) (v : BitVec 32) (h : v.toNat < 3) :
    ∀ a, (![v.toNat, 0, k] : Fin 3 → Nat) a + S1x256x256.size a ≤ S3x256x1536.size a := by
  intro a
  fin_cases a
  · show v.toNat + 1 ≤ 3; omega
  · show 0 + 256 ≤ 256; omega
  · show k + 256 ≤ 1536; omega

/-- A word below 3 names a whole row block of the decoded factor. -/
theorem whole_inb (v : BitVec 32) (h : v.toNat < 3) :
    ∀ a, (![v.toNat, 0, 0] : Fin 3 → Nat) a + S1x256x1536.size a ≤ S3x256x1536.size a := by
  intro a
  fin_cases a
  · show v.toNat + 1 ≤ 3; omega
  · show 0 + 256 ≤ 256; omega
  · show 0 + 1536 ≤ 1536; omega

/-- A word below 3 names a row of the coefficients. -/
theorem coef_inb (v : BitVec 32) (h : v.toNat < 3) :
    ∀ a, (![v.toNat, 0] : Fin 2 → Nat) a + S1x256.size a ≤ S3x256.size a := by
  intro a
  fin_cases a
  · show v.toNat + 1 ≤ 3; omega
  · show 0 + 256 ≤ 256; omega

/-- The precondition read at a word of `delta_idx`: it is below 3. -/
theorem idx_lt (m : (ℓ : Loc nD τ sig) → Buf (Elt Bits) ℓ) (h : Cert.Pre_Kernel m) (c : Dev nD) (y : S6.Idx) :
    (m ((c : Thread nD τ).loc main_arg12) y).toNat < 3 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Cert.Pre_idx_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- So is every word of its block at a point. -/
theorem blk_lt (m : (ℓ : Loc nD τ sig) → Buf (Elt Bits) ℓ) (h : Cert.Pre_Kernel m) (c : Dev nD) (t : Fin cfg0.N) (y) :
    (iblk m c 0 t y).toNat < 3 := by
  unfold iblk; rw [View.read_apply, cast_eq]
  rw [V_main_arg12 m c]
  exact idx_lt m h c _

/-- The word the body reads at position `k` of its `delta_idx` block is below 3. -/
theorem word_lt (m : (ℓ : Loc nD τ sig) → Buf (Elt Bits) ℓ) (h : Cert.Pre_Kernel m) (c : Dev nD) (t : Fin cfg0.N)
    (off : Fin 1 → Nat) (inb : ∀ a, off a + S1.size a ≤ S6.size a) (j) :
    ((ms0_0 t).view.readAt (Elt Bits) (Rect.unit (s := S6) off S1.size inb).toLoadRect ((hs0_0 t).unread (iblk m c 0 t)) j).toNat < 3 := by
  simp only [View.readAt_apply, Memref.IsWhole.read_unread]
  exact blk_lt m h c t _

/-- The precondition implies everything the body assumes. -/
theorem hyps_of_pre (m : (ℓ : Loc nD τ sig) → Buf (Elt Bits) ℓ) (h : Cert.Pre_Kernel m) : Hyps m :=
  Hyps.of
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t => slice_inb 0 (by omega) _ (word_lt m h c t _ _ _))
    (fun c t => slice_inb 0 (by omega) _ (word_lt m h c t _ _ _))
    (fun c t => slice_inb 0 (by omega) _ (word_lt m h c t _ _ _))
    (fun c t => slice_inb 0 (by omega) _ (word_lt m h c t _ _ _))
    (fun c t => slice_inb 0 (by omega) _ (word_lt m h c t _ _ _))
    (fun c t => slice_inb 0 (by omega) _ (word_lt m h c t _ _ _))
    (fun c t => slice_inb 256 (by omega) _ (word_lt m h c t _ _ _))
    (fun c t => slice_inb 256 (by omega) _ (word_lt m h c t _ _ _))
    (fun c t => slice_inb 256 (by omega) _ (word_lt m h c t _ _ _))
    (fun c t => slice_inb 256 (by omega) _ (word_lt m h c t _ _ _))
    (fun c t => slice_inb 256 (by omega) _ (word_lt m h c t _ _ _))
    (fun c t => slice_inb 256 (by omega) _ (word_lt m h c t _ _ _))
    (fun c t => slice_inb 512 (by omega) _ (word_lt m h c t _ _ _))
    (fun c t => slice_inb 512 (by omega) _ (word_lt m h c t _ _ _))
    (fun c t => slice_inb 512 (by omega) _ (word_lt m h c t _ _ _))
    (fun c t => slice_inb 512 (by omega) _ (word_lt m h c t _ _ _))
    (fun c t => slice_inb 512 (by omega) _ (word_lt m h c t _ _ _))
    (fun c t => slice_inb 512 (by omega) _ (word_lt m h c t _ _ _))
    (fun c t => slice_inb 768 (by omega) _ (word_lt m h c t _ _ _))
    (fun c t => slice_inb 768 (by omega) _ (word_lt m h c t _ _ _))
    (fun c t => slice_inb 768 (by omega) _ (word_lt m h c t _ _ _))
    (fun c t => slice_inb 768 (by omega) _ (word_lt m h c t _ _ _))
    (fun c t => slice_inb 768 (by omega) _ (word_lt m h c t _ _ _))
    (fun c t => slice_inb 768 (by omega) _ (word_lt m h c t _ _ _))
    (fun c t => slice_inb 1024 (by omega) _ (word_lt m h c t _ _ _))
    (fun c t => slice_inb 1024 (by omega) _ (word_lt m h c t _ _ _))
    (fun c t => slice_inb 1024 (by omega) _ (word_lt m h c t _ _ _))
    (fun c t => slice_inb 1024 (by omega) _ (word_lt m h c t _ _ _))
    (fun c t => slice_inb 1024 (by omega) _ (word_lt m h c t _ _ _))
    (fun c t => slice_inb 1024 (by omega) _ (word_lt m h c t _ _ _))

end Cert.Kernel.Own

namespace Cert.KernelIdeal.Own

open Idealize.ShloMosaic Idealize.ShloMosaic.TcCoe Idealize.SL.Sem Cert.KernelIdeal Cert.KernelIdeal.Gen

/-- A word below 3 names a slice of the decoded factor that lies inside it, at any of the column offsets the body uses. -/
theorem slice_inb (k : Nat) (hk : k + 256 ≤ 1536) (v : BitVec 32) (h : v.toNat < 3) :
    ∀ a, (![v.toNat, 0, k] : Fin 3 → Nat) a + S1x256x256.size a ≤ S3x256x1536.size a := by
  intro a
  fin_cases a
  · show v.toNat + 1 ≤ 3; omega
  · show 0 + 256 ≤ 256; omega
  · show k + 256 ≤ 1536; omega

/-- A word below 3 names a whole row block of the decoded factor. -/
theorem whole_inb (v : BitVec 32) (h : v.toNat < 3) :
    ∀ a, (![v.toNat, 0, 0] : Fin 3 → Nat) a + S1x256x1536.size a ≤ S3x256x1536.size a := by
  intro a
  fin_cases a
  · show v.toNat + 1 ≤ 3; omega
  · show 0 + 256 ≤ 256; omega
  · show 0 + 1536 ≤ 1536; omega

/-- A word below 3 names a row of the coefficients. -/
theorem coef_inb (v : BitVec 32) (h : v.toNat < 3) :
    ∀ a, (![v.toNat, 0] : Fin 2 → Nat) a + S1x256.size a ≤ S3x256.size a := by
  intro a
  fin_cases a
  · show v.toNat + 1 ≤ 3; omega
  · show 0 + 256 ≤ 256; omega

/-- The precondition read at a word of `delta_idx`: it is below 3. -/
theorem idx_lt (m : (ℓ : Loc nD τ sig) → Buf (Elt Ideal) ℓ) (h : Cert.Pre_KernelIdeal m) (c : Dev nD) (y : S6.Idx) :
    (m ((c : Thread nD τ).loc main_arg12) y).toNat < 3 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Cert.Pre_idx_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- So is every word of its block at a point. -/
theorem blk_lt (m : (ℓ : Loc nD τ sig) → Buf (Elt Ideal) ℓ) (h : Cert.Pre_KernelIdeal m) (c : Dev nD) (t : Fin cfg0.N) (y) :
    (iblk m c 0 t y).toNat < 3 := by
  unfold iblk; rw [View.read_apply, cast_eq]
  rw [V_main_arg12 m c]
  exact idx_lt m h c _

/-- The word the body reads at position `k` of its `delta_idx` block is below 3. -/
theorem word_lt (m : (ℓ : Loc nD τ sig) → Buf (Elt Ideal) ℓ) (h : Cert.Pre_KernelIdeal m) (c : Dev nD) (t : Fin cfg0.N)
    (off : Fin 1 → Nat) (inb : ∀ a, off a + S1.size a ≤ S6.size a) (j) :
    ((ms0_0 t).view.readAt (Elt Ideal) (Rect.unit (s := S6) off S1.size inb).toLoadRect ((hs0_0 t).unread (iblk m c 0 t)) j).toNat < 3 := by
  simp only [View.readAt_apply, Memref.IsWhole.read_unread]
  exact blk_lt m h c t _

/-- The precondition implies everything the body assumes. -/
theorem hyps_of_pre (m : (ℓ : Loc nD τ sig) → Buf (Elt Ideal) ℓ) (h : Cert.Pre_KernelIdeal m) : Hyps m :=
  Hyps.of
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t _ => ⟨fun _ => whole_inb _ (word_lt m h c t _ _ _), fun _ => coef_inb _ (word_lt m h c t _ _ _)⟩)
    (fun c t => slice_inb 0 (by omega) _ (word_lt m h c t _ _ _))
    (fun c t => slice_inb 0 (by omega) _ (word_lt m h c t _ _ _))
    (fun c t => slice_inb 0 (by omega) _ (word_lt m h c t _ _ _))
    (fun c t => slice_inb 0 (by omega) _ (word_lt m h c t _ _ _))
    (fun c t => slice_inb 0 (by omega) _ (word_lt m h c t _ _ _))
    (fun c t => slice_inb 0 (by omega) _ (word_lt m h c t _ _ _))
    (fun c t => slice_inb 256 (by omega) _ (word_lt m h c t _ _ _))
    (fun c t => slice_inb 256 (by omega) _ (word_lt m h c t _ _ _))
    (fun c t => slice_inb 256 (by omega) _ (word_lt m h c t _ _ _))
    (fun c t => slice_inb 256 (by omega) _ (word_lt m h c t _ _ _))
    (fun c t => slice_inb 256 (by omega) _ (word_lt m h c t _ _ _))
    (fun c t => slice_inb 256 (by omega) _ (word_lt m h c t _ _ _))
    (fun c t => slice_inb 512 (by omega) _ (word_lt m h c t _ _ _))
    (fun c t => slice_inb 512 (by omega) _ (word_lt m h c t _ _ _))
    (fun c t => slice_inb 512 (by omega) _ (word_lt m h c t _ _ _))
    (fun c t => slice_inb 512 (by omega) _ (word_lt m h c t _ _ _))
    (fun c t => slice_inb 512 (by omega) _ (word_lt m h c t _ _ _))
    (fun c t => slice_inb 512 (by omega) _ (word_lt m h c t _ _ _))
    (fun c t => slice_inb 768 (by omega) _ (word_lt m h c t _ _ _))
    (fun c t => slice_inb 768 (by omega) _ (word_lt m h c t _ _ _))
    (fun c t => slice_inb 768 (by omega) _ (word_lt m h c t _ _ _))
    (fun c t => slice_inb 768 (by omega) _ (word_lt m h c t _ _ _))
    (fun c t => slice_inb 768 (by omega) _ (word_lt m h c t _ _ _))
    (fun c t => slice_inb 768 (by omega) _ (word_lt m h c t _ _ _))
    (fun c t => slice_inb 1024 (by omega) _ (word_lt m h c t _ _ _))
    (fun c t => slice_inb 1024 (by omega) _ (word_lt m h c t _ _ _))
    (fun c t => slice_inb 1024 (by omega) _ (word_lt m h c t _ _ _))
    (fun c t => slice_inb 1024 (by omega) _ (word_lt m h c t _ _ _))
    (fun c t => slice_inb 1024 (by omega) _ (word_lt m h c t _ _ _))
    (fun c t => slice_inb 1024 (by omega) _ (word_lt m h c t _ _ _))

end Cert.KernelIdeal.Own

end
-- ==== Proof.Tile.lean ====
/- One stored tile of the kernel's output at an index: a sum over the model's width against the decoded base weights plus a sum over the slots against
   the decoded factor of the batch's own adapter. -/
module

public import proofs.«01_k».proof.Proof.Decode
public import proofs.«01_k».proof.Proof.Hyps
public import proofs.«01_k».proof.Proof.Gen.KernelIdeal.Value
public import Idealize.ShloMosaic.Lib.Pipeline.ValueKit
public import Idealize.ShloMosaic.Lib.Pipeline.ReadBack

@[expose] public section

set_option maxRecDepth 16384
noncomputable section
namespace Cert.KernelIdeal.Own

open Idealize.ShloMosaic Idealize.ShloMosaic.TcCoe Idealize.SL.Sem Cert.KernelIdeal Cert.KernelIdeal.Gen

local notation "F" => Idealize.ShloMosaic.Ideal

/-- Each row of a 3 × 256 array is a slice of it. -/
theorem sl256 (d : Fin 3) : S3x256.Slices ![d.val, 0] S1x256 := by
  fin_vals d with h <;> rw [h] <;> decide

/-- Each row of a 3 × 1536 array is a slice of it. -/
theorem sl1536 (d : Fin 3) : S3x1536.Slices ![d.val, 0] S1x1536 := by
  fin_vals d with h <;> rw [h] <;> decide

/-- A box of extents one, one, `n` lies inside an array when its corner does. -/
theorem inb3 {A B C a b c n1 n2 n : Nat} (ha : a + n1 ≤ A) (hb : b + n2 ≤ B) (hc : c + n ≤ C) :
    ∀ i, (![a, b, c] : Fin 3 → Nat) i + (⟨3, ![n1, n2, n]⟩ : Shape).size i ≤ (⟨3, ![A, B, C]⟩ : Shape).size i := by
  intro i
  match i with
  | ⟨0, _⟩ => exact ha
  | ⟨1, _⟩ => exact hb
  | ⟨2, _⟩ => exact hc

/-- A box of two axes lies inside an array when its far corner does. -/
theorem inb2 {A B a b n1 n2 : Nat} (ha : a + n1 ≤ A) (hb : b + n2 ≤ B) :
    ∀ i, (![a, b] : Fin 2 → Nat) i + (⟨2, ![n1, n2]⟩ : Shape).size i ≤ (⟨2, ![A, B]⟩ : Shape).size i := by
  intro i
  match i with
  | ⟨0, _⟩ => exact ha
  | ⟨1, _⟩ => exact hb

/-- A load of a box of a whole rank-three buffer, at an index. -/
theorem load3 {A B C a b c n1 n2 n : Nat} {e : EltTy} {sp : Space} (M : Memref sig .tc sp ⟨3, ![A, B, C]⟩ e) (hM : M.IsWhole) (X : Vec F ⟨3, ![A, B, C]⟩ e)
    (inb : ∀ i, (![a, b, c] : Fin 3 → Nat) i + (⟨3, ![n1, n2, n]⟩ : Shape).size i ≤ (⟨3, ![A, B, C]⟩ : Shape).size i)
    (i : Fin n1) (j : Fin n2) (k : Fin n) (i' : Fin A) (j' : Fin B) (k' : Fin C) (hi : i'.val = a + i.val) (hj : j'.val = b + j.val) (hk : k'.val = c + k.val) :
    M.view.readAt (Elt F) (Rect.unit (s := ⟨3, ![A, B, C]⟩) ![a, b, c] (⟨3, ![n1, n2, n]⟩ : Shape).size inb).toLoadRect (hM.unread X) (ix3 i j k)
      = X (ix3 i' j' k') := by
  rw [View.readAt_apply, Memref.IsWhole.read_unread]
  congr 1
  funext u
  apply Fin.ext
  match u with
  | ⟨0, _⟩ => show a + 1 * i.val = _; rw [Nat.one_mul]; exact hi.symm
  | ⟨1, _⟩ => show b + 1 * j.val = _; rw [Nat.one_mul]; exact hj.symm
  | ⟨2, _⟩ => show c + 1 * k.val = _; rw [Nat.one_mul]; exact hk.symm

/-- A load of a box of a whole rank-two buffer, at an index. -/
theorem load2 {A B a b n1 n2 : Nat} {e : EltTy} {sp : Space} (M : Memref sig .tc sp ⟨2, ![A, B]⟩ e) (hM : M.IsWhole) (X : Vec F ⟨2, ![A, B]⟩ e)
    (inb : ∀ i, (![a, b] : Fin 2 → Nat) i + (⟨2, ![n1, n2]⟩ : Shape).size i ≤ (⟨2, ![A, B]⟩ : Shape).size i)
    (i : Fin n1) (j : Fin n2) (i' : Fin A) (j' : Fin B) (hi : i'.val = a + i.val) (hj : j'.val = b + j.val) :
    M.view.readAt (Elt F) (Rect.unit (s := ⟨2, ![A, B]⟩) ![a, b] (⟨2, ![n1, n2]⟩ : Shape).size inb).toLoadRect (hM.unread X) (ix2 i j)
      = X (ix2 i' j') := by
  rw [View.readAt_apply, Memref.IsWhole.read_unread]
  congr 1
  funext u
  apply Fin.ext
  match u with
  | ⟨0, _⟩ => show a + 1 * i.val = _; rw [Nat.one_mul]; exact hi.symm
  | ⟨1, _⟩ => show b + 1 * j.val = _; rw [Nat.one_mul]; exact hj.symm

/-! ## The decoded tiles as the body loads them -/

section Body

variable (m : (ℓ : Loc nD τ sig) → Buf (Elt Ideal) ℓ) (c : Dev nD) (t : Fin cfg0.N)

/-- The decoded tile of adapter `d` on the columns from `a`, from the packed words of the point's blocks. -/
def uTile (d : Fin 3) (a : Nat) (ha : a + 256 ≤ 1280) : FVec F S1x256x256 .bf16 :=
  delta256 ![d.val, 0] (sl256 d)
    ((ms0_9 t).view.readAt (Elt F) (Rect.unit (s := S10x3x1280) ![0, d.val, a] S1x1x256.size (inb3 (A := 10) (B := 3) (C := 1280) (a := 0) (b := d.val) (c := a) (n1 := 1) (n2 := 1) (n := 256) (by decide) (by omega) (by omega))).toLoadRect ((hs0_9 t).unread (iblk m c 9 t)))
    ((ms0_9 t).view.readAt (Elt F) (Rect.unit (s := S10x3x1280) ![1, d.val, a] S1x1x256.size (inb3 (A := 10) (B := 3) (C := 1280) (a := 1) (b := d.val) (c := a) (n1 := 1) (n2 := 1) (n := 256) (by decide) (by omega) (by omega))).toLoadRect ((hs0_9 t).unread (iblk m c 9 t)))
    ((ms0_9 t).view.readAt (Elt F) (Rect.unit (s := S10x3x1280) ![2, d.val, a] S1x1x256.size (inb3 (A := 10) (B := 3) (C := 1280) (a := 2) (b := d.val) (c := a) (n1 := 1) (n2 := 1) (n := 256) (by decide) (by omega) (by omega))).toLoadRect ((hs0_9 t).unread (iblk m c 9 t)))
    ((ms0_9 t).view.readAt (Elt F) (Rect.unit (s := S10x3x1280) ![3, d.val, a] S1x1x256.size (inb3 (A := 10) (B := 3) (C := 1280) (a := 3) (b := d.val) (c := a) (n1 := 1) (n2 := 1) (n := 256) (by decide) (by omega) (by omega))).toLoadRect ((hs0_9 t).unread (iblk m c 9 t)))
    ((ms0_9 t).view.readAt (Elt F) (Rect.unit (s := S10x3x1280) ![4, d.val, a] S1x1x256.size (inb3 (A := 10) (B := 3) (C := 1280) (a := 4) (b := d.val) (c := a) (n1 := 1) (n2 := 1) (n := 256) (by decide) (by omega) (by omega))).toLoadRect ((hs0_9 t).unread (iblk m c 9 t)))
    ((ms0_9 t).view.readAt (Elt F) (Rect.unit (s := S10x3x1280) ![5, d.val, a] S1x1x256.size (inb3 (A := 10) (B := 3) (C := 1280) (a := 5) (b := d.val) (c := a) (n1 := 1) (n2 := 1) (n := 256) (by decide) (by omega) (by omega))).toLoadRect ((hs0_9 t).unread (iblk m c 9 t)))
    ((ms0_9 t).view.readAt (Elt F) (Rect.unit (s := S10x3x1280) ![6, d.val, a] S1x1x256.size (inb3 (A := 10) (B := 3) (C := 1280) (a := 6) (b := d.val) (c := a) (n1 := 1) (n2 := 1) (n := 256) (by decide) (by omega) (by omega))).toLoadRect ((hs0_9 t).unread (iblk m c 9 t)))
    ((ms0_9 t).view.readAt (Elt F) (Rect.unit (s := S10x3x1280) ![7, d.val, a] S1x1x256.size (inb3 (A := 10) (B := 3) (C := 1280) (a := 7) (b := d.val) (c := a) (n1 := 1) (n2 := 1) (n := 256) (by decide) (by omega) (by omega))).toLoadRect ((hs0_9 t).unread (iblk m c 9 t)))
    ((ms0_9 t).view.readAt (Elt F) (Rect.unit (s := S10x3x1280) ![8, d.val, a] S1x1x256.size (inb3 (A := 10) (B := 3) (C := 1280) (a := 8) (b := d.val) (c := a) (n1 := 1) (n2 := 1) (n := 256) (by decide) (by omega) (by omega))).toLoadRect ((hs0_9 t).unread (iblk m c 9 t)))
    ((ms0_9 t).view.readAt (Elt F) (Rect.unit (s := S10x3x1280) ![9, d.val, a] S1x1x256.size (inb3 (A := 10) (B := 3) (C := 1280) (a := 9) (b := d.val) (c := a) (n1 := 1) (n2 := 1) (n := 256) (by decide) (by omega) (by omega))).toLoadRect ((hs0_9 t).unread (iblk m c 9 t)))
    ((ms0_7 t).view.readAt (Elt F) (Rect.unit (s := S3x4x1280) ![d.val, 0, a] S1x1x256.size (inb3 (A := 3) (B := 4) (C := 1280) (a := d.val) (b := 0) (c := a) (n1 := 1) (n2 := 1) (n := 256) (by omega) (by decide) (by omega))).toLoadRect ((hs0_7 t).unread (iblk m c 7 t)))
    ((ms0_7 t).view.readAt (Elt F) (Rect.unit (s := S3x4x1280) ![d.val, 1, a] S1x1x256.size (inb3 (A := 3) (B := 4) (C := 1280) (a := d.val) (b := 1) (c := a) (n1 := 1) (n2 := 1) (n := 256) (by omega) (by decide) (by omega))).toLoadRect ((hs0_7 t).unread (iblk m c 7 t)))
    ((ms0_7 t).view.readAt (Elt F) (Rect.unit (s := S3x4x1280) ![d.val, 2, a] S1x1x256.size (inb3 (A := 3) (B := 4) (C := 1280) (a := d.val) (b := 2) (c := a) (n1 := 1) (n2 := 1) (n := 256) (by omega) (by decide) (by omega))).toLoadRect ((hs0_7 t).unread (iblk m c 7 t)))
    ((ms0_7 t).view.readAt (Elt F) (Rect.unit (s := S3x4x1280) ![d.val, 3, a] S1x1x256.size (inb3 (A := 3) (B := 4) (C := 1280) (a := d.val) (b := 3) (c := a) (n1 := 1) (n2 := 1) (n := 256) (by omega) (by decide) (by omega))).toLoadRect ((hs0_7 t).unread (iblk m c 7 t)))
    ((ms0_5 t).view.readAt (Elt F) (Rect.unit (s := S2x3x1280) ![0, 0, a] S1x3x256.size (inb3 (A := 2) (B := 3) (C := 1280) (a := 0) (b := 0) (c := a) (n1 := 1) (n2 := 3) (n := 256) (by decide) (by decide) (by omega))).toLoadRect ((hs0_5 t).unread (iblk m c 5 t)))
    ((ms0_5 t).view.readAt (Elt F) (Rect.unit (s := S2x3x1280) ![1, 0, a] S1x3x256.size (inb3 (A := 2) (B := 3) (C := 1280) (a := 1) (b := 0) (c := a) (n1 := 1) (n2 := 3) (n := 256) (by decide) (by decide) (by omega))).toLoadRect ((hs0_5 t).unread (iblk m c 5 t)))

/-- The packed columns of adapter `d` at the point's column `n`, unpacked into slots. -/
def uSlot (d : Fin 3) (n : Fin 1280) (q : Fin 256) : EReal :=
  slotVal (fun w => iblk m c 9 t (ix3 w d n)) (fun w => iblk m c 7 t (ix3 d w n)) (iblk m c 5 t (ix3 0 d n)) (iblk m c 5 t (ix3 1 d n)) q.val

/-- The decoded tile at an index. -/
theorem uTile_apply (d : Fin 3) (a : Nat) (ha : a + 256 ≤ 1280) (q n : Fin 256) (n' : Fin 1280) (hn : n'.val = a + n.val) :
    uTile m c t d a ha (ix3 0 q n) = uSlot m c t d n' q := by
  unfold uTile
  refine (delta256_apply d _ _ _ _ _ _ _ _ _ _ _ _ _ _ _ _ _ (fun w => iblk m c 9 t (ix3 w d n')) (fun w => iblk m c 7 t (ix3 d w n')) q n
    (load3 (ms0_9 t) (hs0_9 t) (iblk m c 9 t) _ 0 0 n 0 d n' rfl rfl hn)
    (load3 (ms0_9 t) (hs0_9 t) (iblk m c 9 t) _ 0 0 n 1 d n' rfl rfl hn)
    (load3 (ms0_9 t) (hs0_9 t) (iblk m c 9 t) _ 0 0 n 2 d n' rfl rfl hn)
    (load3 (ms0_9 t) (hs0_9 t) (iblk m c 9 t) _ 0 0 n 3 d n' rfl rfl hn)
    (load3 (ms0_9 t) (hs0_9 t) (iblk m c 9 t) _ 0 0 n 4 d n' rfl rfl hn)
    (load3 (ms0_9 t) (hs0_9 t) (iblk m c 9 t) _ 0 0 n 5 d n' rfl rfl hn)
    (load3 (ms0_9 t) (hs0_9 t) (iblk m c 9 t) _ 0 0 n 6 d n' rfl rfl hn)
    (load3 (ms0_9 t) (hs0_9 t) (iblk m c 9 t) _ 0 0 n 7 d n' rfl rfl hn)
    (load3 (ms0_9 t) (hs0_9 t) (iblk m c 9 t) _ 0 0 n 8 d n' rfl rfl hn)
    (load3 (ms0_9 t) (hs0_9 t) (iblk m c 9 t) _ 0 0 n 9 d n' rfl rfl hn)
    (load3 (ms0_7 t) (hs0_7 t) (iblk m c 7 t) _ 0 0 n d 0 n' rfl rfl hn)
    (load3 (ms0_7 t) (hs0_7 t) (iblk m c 7 t) _ 0 0 n d 1 n' rfl rfl hn)
    (load3 (ms0_7 t) (hs0_7 t) (iblk m c 7 t) _ 0 0 n d 2 n' rfl rfl hn)
    (load3 (ms0_7 t) (hs0_7 t) (iblk m c 7 t) _ 0 0 n d 3 n' rfl rfl hn)).trans ?_
  rw [load3 (ms0_5 t) (hs0_5 t) (iblk m c 5 t) _ 0 d n 0 d n' rfl (by simp) hn]
  rw [load3 (ms0_5 t) (hs0_5 t) (iblk m c 5 t) _ 0 d n 1 d n' rfl (by simp) hn]
  rfl

/-- The decoded factor of adapter `d` on the model's width, from the packed words of the point's blocks. -/
def vTile (d : Fin 3) : FVec F S1x256x1536 .bf16 :=
  delta1536 ![d.val, 0] (sl1536 d)
    ((ms0_8 t).view.readAt (Elt F) (Rect.unit (s := S10x3x1536) ![0, d.val, 0] S1x1x1536.size (inb3 (A := 10) (B := 3) (C := 1536) (a := 0) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![1, d.val, 0] S1x1x1536.size (inb3 (A := 10) (B := 3) (C := 1536) (a := 1) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![2, d.val, 0] S1x1x1536.size (inb3 (A := 10) (B := 3) (C := 1536) (a := 2) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![3, d.val, 0] S1x1x1536.size (inb3 (A := 10) (B := 3) (C := 1536) (a := 3) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![4, d.val, 0] S1x1x1536.size (inb3 (A := 10) (B := 3) (C := 1536) (a := 4) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![5, d.val, 0] S1x1x1536.size (inb3 (A := 10) (B := 3) (C := 1536) (a := 5) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![6, d.val, 0] S1x1x1536.size (inb3 (A := 10) (B := 3) (C := 1536) (a := 6) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![7, d.val, 0] S1x1x1536.size (inb3 (A := 10) (B := 3) (C := 1536) (a := 7) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![8, d.val, 0] S1x1x1536.size (inb3 (A := 10) (B := 3) (C := 1536) (a := 8) (b := d.val) (c := 0) (n1 := 1) (n2 := 1) (n := 1536) (by decide) (by omega) (by decide))).toLoadRect ((hs0_8 t).unread (iblk m c 8 t)))
    ((ms0_8 t).view.readAt (Elt F) (Rect.unit (s := S10x3x1536) ![9, d.val, 0] S1x1x1536.size (inb3 (A := 10) (B := 3) (C := 1536) (a := 9) (b := d.val) (c := 0) (n1 := 1) (n2 := 1) (n := 1536) (by decide) (by omega) (by decide))).toLoadRect ((hs0_8 t).unread (iblk m c 8 t)))
    ((ms0_6 t).view.readAt (Elt F) (Rect.unit (s := S3x4x1536) ![d.val, 0, 0] S1x1x1536.size (inb3 (A := 3) (B := 4) (C := 1536) (a := d.val) (b := 0) (c := 0) (n1 := 1) (n2 := 1) (n := 1536) (by omega) (by decide) (by decide))).toLoadRect ((hs0_6 t).unread (iblk m c 6 t)))
    ((ms0_6 t).view.readAt (Elt F) (Rect.unit (s := S3x4x1536) ![d.val, 1, 0] S1x1x1536.size (inb3 (A := 3) (B := 4) (C := 1536) (a := d.val) (b := 1) (c := 0) (n1 := 1) (n2 := 1) (n := 1536) (by omega) (by decide) (by decide))).toLoadRect ((hs0_6 t).unread (iblk m c 6 t)))
    ((ms0_6 t).view.readAt (Elt F) (Rect.unit (s := S3x4x1536) ![d.val, 2, 0] S1x1x1536.size (inb3 (A := 3) (B := 4) (C := 1536) (a := d.val) (b := 2) (c := 0) (n1 := 1) (n2 := 1) (n := 1536) (by omega) (by decide) (by decide))).toLoadRect ((hs0_6 t).unread (iblk m c 6 t)))
    ((ms0_6 t).view.readAt (Elt F) (Rect.unit (s := S3x4x1536) ![d.val, 3, 0] S1x1x1536.size (inb3 (A := 3) (B := 4) (C := 1536) (a := d.val) (b := 3) (c := 0) (n1 := 1) (n2 := 1) (n := 1536) (by omega) (by decide) (by decide))).toLoadRect ((hs0_6 t).unread (iblk m c 6 t)))
    ((ms0_4 t).view.readAt (Elt F) (Rect.unit (s := S2x3x1536) ![0, 0, 0] S1x3x1536.size (inb3 (A := 2) (B := 3) (C := 1536) (a := 0) (b := 0) (c := 0) (n1 := 1) (n2 := 3) (n := 1536) (by decide) (by decide) (by decide))).toLoadRect ((hs0_4 t).unread (iblk m c 4 t)))
    ((ms0_4 t).view.readAt (Elt F) (Rect.unit (s := S2x3x1536) ![1, 0, 0] S1x3x1536.size (inb3 (A := 2) (B := 3) (C := 1536) (a := 1) (b := 0) (c := 0) (n1 := 1) (n2 := 3) (n := 1536) (by decide) (by decide) (by decide))).toLoadRect ((hs0_4 t).unread (iblk m c 4 t)))

/-- The packed columns of adapter `d` at the width's column `n`, unpacked into slots. -/
def vSlot (d : Fin 3) (n : Fin 1536) (q : Fin 256) : EReal :=
  slotVal (fun w => iblk m c 8 t (ix3 w d n)) (fun w => iblk m c 6 t (ix3 d w n)) (iblk m c 4 t (ix3 0 d n)) (iblk m c 4 t (ix3 1 d n)) q.val

/-- The decoded factor at an index. -/
theorem vTile_apply (d : Fin 3) (q : Fin 256) (n : Fin 1536) : vTile m c t d (ix3 0 q n) = vSlot m c t d n q := by
  have hn : n.val = 0 + n.val := (Nat.zero_add _).symm
  let n' := n
  unfold vTile
  refine (delta1536_apply d _ _ _ _ _ _ _ _ _ _ _ _ _ _ _ _ _ (fun w => iblk m c 8 t (ix3 w d n')) (fun w => iblk m c 6 t (ix3 d w n')) q n
    (load3 (ms0_8 t) (hs0_8 t) (iblk m c 8 t) _ 0 0 n 0 d n' rfl rfl hn)
    (load3 (ms0_8 t) (hs0_8 t) (iblk m c 8 t) _ 0 0 n 1 d n' rfl rfl hn)
    (load3 (ms0_8 t) (hs0_8 t) (iblk m c 8 t) _ 0 0 n 2 d n' rfl rfl hn)
    (load3 (ms0_8 t) (hs0_8 t) (iblk m c 8 t) _ 0 0 n 3 d n' rfl rfl hn)
    (load3 (ms0_8 t) (hs0_8 t) (iblk m c 8 t) _ 0 0 n 4 d n' rfl rfl hn)
    (load3 (ms0_8 t) (hs0_8 t) (iblk m c 8 t) _ 0 0 n 5 d n' rfl rfl hn)
    (load3 (ms0_8 t) (hs0_8 t) (iblk m c 8 t) _ 0 0 n 6 d n' rfl rfl hn)
    (load3 (ms0_8 t) (hs0_8 t) (iblk m c 8 t) _ 0 0 n 7 d n' rfl rfl hn)
    (load3 (ms0_8 t) (hs0_8 t) (iblk m c 8 t) _ 0 0 n 8 d n' rfl rfl hn)
    (load3 (ms0_8 t) (hs0_8 t) (iblk m c 8 t) _ 0 0 n 9 d n' rfl rfl hn)
    (load3 (ms0_6 t) (hs0_6 t) (iblk m c 6 t) _ 0 0 n d 0 n' rfl rfl hn)
    (load3 (ms0_6 t) (hs0_6 t) (iblk m c 6 t) _ 0 0 n d 1 n' rfl rfl hn)
    (load3 (ms0_6 t) (hs0_6 t) (iblk m c 6 t) _ 0 0 n d 2 n' rfl rfl hn)
    (load3 (ms0_6 t) (hs0_6 t) (iblk m c 6 t) _ 0 0 n d 3 n' rfl rfl hn)).trans ?_
  rw [load3 (ms0_4 t) (hs0_4 t) (iblk m c 4 t) _ 0 d n 0 d n' rfl (by simp) hn]
  rw [load3 (ms0_4 t) (hs0_4 t) (iblk m c 4 t) _ 0 d n 1 d n' rfl (by simp) hn]
  rfl

/-- The base weights' tile on the columns from `a`, decoded and scaled. -/
def wTile (a : Nat) (ha : a + 256 ≤ 1280) : FVec F S1536x256 .bf16 :=
  baseTile ((ms0_2 t).view.readAt (Elt F) (Rect.unit (s := S768x1280) ![0, a] S768x256.size (inb2 (A := 768) (B := 1280) (a := 0) (b := a) (n1 := 768) (n2 := 256) (by decide) (by omega))).toLoadRect ((hs0_2 t).unread (iblk m c 2 t)))
    ((ms0_3 t).view.readAt (Elt F) (Rect.unit (s := S12x1280) ![0, a] S12x256.size (inb2 (A := 12) (B := 1280) (a := 0) (b := a) (n1 := 12) (n2 := 256) (by decide) (by omega))).toLoadRect ((hs0_3 t).unread (iblk m c 3 t)))

/-- A decoded base weight of the point's block. -/
def wVal (k : Fin 1536) (n : Fin 1280) : EReal :=
  nibVal (iblk m c 2 t (ix2 ⟨k.val / 2, by omega⟩ n)) (k.val % 2) * iblk m c 3 t (ix2 ⟨k.val / 128, by omega⟩ n)

/-- The base weights' tile at an index. -/
theorem wTile_apply (a : Nat) (ha : a + 256 ≤ 1280) (k : Fin 1536) (n : Fin 256) (n' : Fin 1280) (hn : n'.val = a + n.val) :
    wTile m c t a ha (ix2 k n) = wVal m c t k n' := by
  unfold wTile
  rw [baseTile_apply, load2 (ms0_2 t) (hs0_2 t) (iblk m c 2 t) _ ⟨k.val / 2, by omega⟩ n ⟨k.val / 2, by omega⟩ n' (by simp) hn,
    load2 (ms0_3 t) (hs0_3 t) (iblk m c 3 t) _ ⟨k.val / 128, by omega⟩ n ⟨k.val / 128, by omega⟩ n' (by simp) hn]
  rfl

/-- The batch entry `b` of the point's activations, as the body loads it. -/
def xTile (b : Fin 6) : Vec F S1x256x1536 .bf16 :=
  (ms0_1 t).view.readAt (Elt F) (Rect.unit (s := S6x256x1536) ![b.val, 0, 0] S1x256x1536.size (inb3 (A := 6) (B := 256) (C := 1536) (a := b.val) (b := 0) (c := 0) (n1 := 1) (n2 := 256) (n := 1536) (by omega) (by decide) (by decide))).toLoadRect ((hs0_1 t).unread (iblk m c 1 t))

/-- An activation of the point's block. -/
def xVal (b : Fin 6) (s : Fin 256) (k : Fin 1536) : EReal := iblk m c 1 t (ix3 b s k)

/-- The loaded activations of a batch entry are those of the block. -/
theorem xTile_apply (b : Fin 6) (s : Fin 256) (k : Fin 1536) : xTile m c t b (ix3 0 s k) = xVal m c t b s k :=
  load3 (ms0_1 t) (hs0_1 t) (iblk m c 1 t) _ 0 s k b s k rfl (by simp) (by simp)

/-- The word of `delta_idx` the body reads for batch entry `b`. -/
def word (b : Fin 6) : BitVec 32 :=
  (ms0_0 t).view.readAt (Elt F) (Rect.unit (s := S6) ![b.val] S1.size (by intro i; match i with | ⟨0, _⟩ => exact b.isLt)).toLoadRect ((hs0_0 t).unread (iblk m c 0 t)) (Shape.Idx.first (s := S1) (by decide))

/-- The word that the body reads for a batch entry is the entry of the block of `delta_idx`. -/
theorem word_eq (b : Fin 6) : word m c t b = iblk m c 0 t (ix1 b) := by
  unfold word
  rw [View.readAt_apply, Memref.IsWhole.read_unread]
  congr 1
  funext u
  apply Fin.ext
  match u with
  | ⟨0, _⟩ => show b.val + 1 * 0 = b.val; omega

end Body

/-! ## Reading the decoded factor back at a data-dependent adapter -/

section Read

variable {sg : RefSig} {κ : Kind} {sp : Space}

/-- After the three adapters' tiles on the columns from `a` are stored, a load of adapter `i`'s tile reads the one stored for `i`. -/
theorem vt_read {N : Nat} (v : View sg κ sp S3x256x1536 .bf16) (f) (L : List (View.Piece (Elt F) S3x256x1536 .bf16)) (a : Nat)
    (T : Fin 3 → Vec F (⟨3, ![1, 256, N]⟩ : Shape) .bf16)
    (inb2 : ∀ i, (![2, 0, a] : Fin 3 → Nat) i + (⟨3, ![1, 256, N]⟩ : Shape).size i ≤ S3x256x1536.size i)
    (inb1 : ∀ i, (![1, 0, a] : Fin 3 → Nat) i + (⟨3, ![1, 256, N]⟩ : Shape).size i ≤ S3x256x1536.size i)
    (inb0 : ∀ i, (![0, 0, a] : Fin 3 → Nat) i + (⟨3, ![1, 256, N]⟩ : Shape).size i ≤ S3x256x1536.size i)
    (i : Fin 3) (off : Fin 3 → Nat) (hoff : off = ![i.val, 0, a])
    (inb : ∀ j, off j + (⟨3, ![1, 256, N]⟩ : Shape).size j ≤ S3x256x1536.size j) (q : Fin 256) (n : Fin N) :
    v.readAt (Elt F) (Rect.unit (s := S3x256x1536) off (⟨3, ![1, 256, N]⟩ : Shape).size inb).toLoadRect
      (v.writes (Elt F) f (⟨Rect.unit ![2, 0, a] (⟨3, ![1, 256, N]⟩ : Shape).size inb2, T 2⟩ :: ⟨Rect.unit ![1, 0, a] (⟨3, ![1, 256, N]⟩ : Shape).size inb1, T 1⟩ ::
        ⟨Rect.unit ![0, 0, a] (⟨3, ![1, 256, N]⟩ : Shape).size inb0, T 0⟩ :: L)) (ix3 0 q n) = T i (ix3 0 q n) := by
  subst hoff
  rw [View.readAt_apply]
  have hy : ∀ u : Fin 3, ((Rect.unit (s := S3x256x1536) ![i.val, 0, a] (⟨3, ![1, 256, N]⟩ : Shape).size inb).toLoadRect.idx (ix3 0 q n) u).val
      = (![i.val, q.val, a + n.val] : Fin 3 → Nat) u := by
    intro u
    match u with
    | ⟨0, _⟩ => show i.val + 1 * 0 = i.val; omega
    | ⟨1, _⟩ => show 0 + 1 * q.val = q.val; omega
    | ⟨2, _⟩ => show a + 1 * n.val = a + n.val; omega
  generalize (Rect.unit (s := S3x256x1536) ![i.val, 0, a] (⟨3, ![1, 256, N]⟩ : Shape).size inb).toLoadRect.idx (ix3 0 q n) = y at hy ⊢
  have h0 : (y 0).val = i.val := hy 0
  have hc : ∀ d : Fin 3, d = i → ∀ u : Fin 3, (y u).val = (![d.val, 0, a] : Fin 3 → Nat) u + ((ix3 (0 : Fin 1) q n : (⟨3, ![1, 256, N]⟩ : Shape).Idx) u).val := by
    intro d hd u
    subst hd
    rw [hy]
    match u with
    | ⟨0, _⟩ => rfl
    | ⟨1, _⟩ => show q.val = 0 + q.val; omega
    | ⟨2, _⟩ => rfl
  have h0' : ∀ d : Nat, i.val < d → ∀ inbd w L', View.read (Elt F) v (v.writes (Elt F) f (⟨Rect.unit ![d, 0, a] (⟨3, ![1, 256, N]⟩ : Shape).size inbd, w⟩ :: L')) y
      = View.read (Elt F) v (v.writes (Elt F) f L') y := fun d hd inbd w L' =>
    View.read_writes_cons_miss_of_axis v f _ L' y 0 d 1 rfl rfl rfl (Or.inl (by rw [h0]; exact hd))
  have hit : ∀ d : Fin 3, d = i → ∀ inbd L', View.read (Elt F) v (v.writes (Elt F) f (⟨Rect.unit ![d.val, 0, a] (⟨3, ![1, 256, N]⟩ : Shape).size inbd, T d⟩ :: L')) y
      = T i (ix3 0 q n) := by
    intro d hd inbd L'
    rw [← hd]
    exact View.read_writes_cons_hit_of_coords v f (Rect.unit (s := S3x256x1536) ![d.val, 0, a] (⟨3, ![1, 256, N]⟩ : Shape).size inbd) (T d) L' (ix3 0 q n) y fun u => (hc d hd u).trans (by show _ = (![d.val, 0, a] : Fin 3 → Nat) u + 1 * _; rw [Nat.one_mul])
  fin_vals i with hi
  · exact (h0' 2 (by rw [hi]; decide) _ _ _).trans ((h0' 1 (by rw [hi]; decide) _ _ _).trans (hit 0 (Fin.ext hi.symm) _ _))
  · exact (h0' 2 (by rw [hi]; decide) _ _ _).trans (hit 1 (Fin.ext hi.symm) _ _)
  · exact hit 2 (Fin.ext hi.symm) _ _

end Read

/-! ## One stored tile of the output -/

/-- The stored tile at an index: the base sum over the width plus the slots' sum. -/
theorem pay_apply (W : FVec F S1536x256 .bf16) (u : Vec F S1x256x256 .bf16) (xb : Vec F S1x256x1536 .bf16) (tb : Vec F S1x256x256 .bf16) (s n : Fin 256) :
    k0_pay600 W u xb tb (ix3 0 s n) = (∑ k : Fin 1536, xb (ix3 0 s k) * W (ix2 k n)) + ∑ q : Fin 256, tb (ix3 0 s q) * u (ix3 0 q n) := by
  unfold k0_pay600
  pointwise

section Out

variable (m : (ℓ : Loc nD τ sig) → Buf (Elt Ideal) ℓ) (c : Dev nD) (t : Fin cfg0.N)

/-- The adapter of batch entry `b` at a point. -/
def adap (h : ∀ y, (iblk m c 0 t y).toNat < 3) (b : Fin 6) : Fin 3 := ⟨(iblk m c 0 t (ix1 b)).toNat, h _⟩

/-- The corner of the decoded delta that the body reads is that of the batch entry's delta. -/
theorem off_eq (h : ∀ y, (iblk m c 0 t y).toNat < 3) (b : Fin 6) (a : Nat) : (![(word m c t b).toNat, 0, a] : Fin 3 → Nat) = ![(adap m c t h b).val, 0, a] := by
  show _ = (![BitVec.toNat (iblk m c 0 t (ix1 b)), 0, a] : Fin 3 → Nat)
  rw [word_eq]

/-- The output block of a point at an index, from the shrink products `T`. -/
def outVal (h : ∀ y, (iblk m c 0 t y).toNat < 3) (T : S6x256x256.Idx → EReal) (y : S6x256x1280.Idx) : EReal :=
  (∑ k : Fin 1536, xVal m c t (y 0) (y 1) k * wVal m c t k (y 2)) + ∑ q : Fin 256, T (ix3 (y 0) (y 1) q) * uSlot m c t (adap m c t h (y 0)) (y 2) q

/-- A stored tile at an index, its operands named by their entries. -/
theorem piece_apply (A : Fin 3) (b : Fin 6) (a : Nat) (W : FVec F S1536x256 .bf16) (U : Fin 3 → FVec F S1x256x256 .bf16) (X : Vec F S1x256x1536 .bf16)
    (Wv : Fin 1536 → Fin 1280 → EReal) (Uv : Fin 3 → Fin 1280 → Fin 256 → EReal) (Xv : Fin 256 → Fin 1536 → EReal)
    (hU : ∀ d q n (n' : Fin 1280), n'.val = a + n.val → U d (ix3 0 q n) = Uv d n' q)
    (hW : ∀ k n (n' : Fin 1280), n'.val = a + n.val → W (ix2 k n) = Wv k n')
    (hX : ∀ s k, X (ix3 0 s k) = Xv s k) (T : S6x256x256.Idx → EReal)
    {sg : RefSig} {κ : Kind} {sp : Space} (v : View sg κ sp S3x256x1536 .bf16) (f) (L : List (View.Piece (Elt F) S3x256x1536 .bf16))
    (inb2 : ∀ i, (![2, 0, a] : Fin 3 → Nat) i + S1x256x256.size i ≤ S3x256x1536.size i)
    (inb1 : ∀ i, (![1, 0, a] : Fin 3 → Nat) i + S1x256x256.size i ≤ S3x256x1536.size i)
    (inb0 : ∀ i, (![0, 0, a] : Fin 3 → Nat) i + S1x256x256.size i ≤ S3x256x1536.size i)
    (off : Fin 3 → Nat) (hoff : off = ![A.val, 0, a]) (inb : ∀ j, off j + S1x256x256.size j ≤ S3x256x1536.size j)
    (tb : Vec F S1x256x256 .bf16) (hT : ∀ s q, tb (ix3 0 s q) = T (ix3 b s q)) (s n : Fin 256) (n' : Fin 1280) (hn : n'.val = a + n.val) :
    k0_pay600 W (v.readAt (Elt F) (Rect.unit (s := S3x256x1536) off S1x256x256.size inb).toLoadRect
        (v.writes (Elt F) f (⟨Rect.unit ![2, 0, a] S1x256x256.size inb2, U 2⟩ :: ⟨Rect.unit ![1, 0, a] S1x256x256.size inb1, U 1⟩ ::
          ⟨Rect.unit ![0, 0, a] S1x256x256.size inb0, U 0⟩ :: L))) X tb (ix3 0 s n)
      = (∑ k : Fin 1536, Xv s k * Wv k n') + ∑ q : Fin 256, T (ix3 b s q) * Uv A n' q := by
  rw [pay_apply]
  congr 1
  · refine Finset.sum_congr rfl fun k _ => ?_
    rw [hX, hW k n n' hn]
  · refine Finset.sum_congr rfl fun q _ => ?_
    rw [hT, ← hU A q n n' hn]
    congr 1
    exact vt_read v f L a U inb2 inb1 inb0 A off hoff inb q n

/-- Every stored tile is the output block there. -/
theorem out_piece (h : ∀ y, (iblk m c 0 t y).toNat < 3) (T : S6x256x256.Idx → EReal) (b : Fin 6) (a : Nat) (ha : a + 256 ≤ 1280)
    {sg : RefSig} {κ : Kind} {sp : Space} (v : View sg κ sp S3x256x1536 .bf16) (f) (L : List (View.Piece (Elt F) S3x256x1536 .bf16))
    (inb2 : ∀ i, (![2, 0, a] : Fin 3 → Nat) i + S1x256x256.size i ≤ S3x256x1536.size i)
    (inb1 : ∀ i, (![1, 0, a] : Fin 3 → Nat) i + S1x256x256.size i ≤ S3x256x1536.size i)
    (inb0 : ∀ i, (![0, 0, a] : Fin 3 → Nat) i + S1x256x256.size i ≤ S3x256x1536.size i)
    (inb : ∀ j, (![(word m c t b).toNat, 0, a] : Fin 3 → Nat) j + S1x256x256.size j ≤ S3x256x1536.size j)
    (tb : Vec F S1x256x256 .bf16) (hT : ∀ s q, tb (ix3 0 s q) = T (ix3 b s q))
    (x : S1x256x256.Idx) (y : S6x256x1280.Idx) (h0 : (y 0).val = b.val + (x 0).val) (h1 : (y 1).val = (x 1).val) (h2 : (y 2).val = a + (x 2).val) :
    k0_pay600 (wTile m c t a ha)
      (v.readAt (Elt F) (Rect.unit (s := S3x256x1536) ![(word m c t b).toNat, 0, a] S1x256x256.size inb).toLoadRect
        (v.writes (Elt F) f (⟨Rect.unit ![2, 0, a] S1x256x256.size inb2, uTile m c t 2 a ha⟩ :: ⟨Rect.unit ![1, 0, a] S1x256x256.size inb1, uTile m c t 1 a ha⟩ ::
          ⟨Rect.unit ![0, 0, a] S1x256x256.size inb0, uTile m c t 0 a ha⟩ :: L)))
      (xTile m c t b) tb x = outVal m c t h T y := by
  obtain ⟨x0, s, n, rfl⟩ : ∃ (x0 : Fin 1) (s n : Fin 256), x = ix3 x0 s n := ⟨x 0, x 1, x 2, (ix3_eta x).symm⟩
  obtain rfl : x0 = 0 := Subsingleton.elim _ _
  have e0 : y 0 = b := Fin.ext (by rw [h0]; rfl)
  have e1 : y 1 = s := Fin.ext h1
  have key := piece_apply (adap m c t h b) b a (wTile m c t a ha) (fun d => uTile m c t d a ha) (xTile m c t b) (wVal m c t) (uSlot m c t) (xVal m c t b)
    (fun d q n n' hn => uTile_apply m c t d a ha q n n' hn) (fun k n n' hn => wTile_apply m c t a ha k n n' hn) (fun s k => xTile_apply m c t b s k) T
    v f L inb2 inb1 inb0 _ (off_eq m c t h b a) inb tb hT s n (y 2) h2
  unfold outVal
  rw [e0, e1]
  with_reducible exact key

end Out

end Cert.KernelIdeal.Own
-- ==== Proof.Shrink.lean ====
/- The shrink products: the coefficients moved onto the slots, and the activations against the decoded factor. -/
module

public import proofs.«01_k».proof.Proof.Tile

@[expose] public section

set_option maxRecDepth 16384
noncomputable section
namespace Cert.KernelIdeal.Own

open Idealize.ShloMosaic Idealize.ShloMosaic.TcCoe Idealize.SL.Sem Cert.KernelIdeal Cert.KernelIdeal.Gen

local notation "F" => Idealize.ShloMosaic.Ideal

/-- The coefficients per slot, as the body stores them, from the three loads. -/
def coefTile (vs : Vec F S3x192 .bf16) (sg : Vec F S3x192 .f32) (us : Vec F S3x192 .bf16) : FVec F S3x256 .f32 :=
  k0_pay6 (k0_pay2 vs sg us) (iota Kind.tc S3x256 32 [1] iota_S3x256_d1_w32) (k0_pay3 vs sg us) (k0_pay4 vs sg us) k0_pay5

/-- The rank a slot holds, when it holds one. -/
def slotRank (q : Nat) : Option (Fin 192) :=
  if h : q < 158 then some ⟨q + 34, by omega⟩
  else if h : 160 ≤ q ∧ q < 170 then some ⟨q - 158, by omega⟩
  else if h : 176 ≤ q ∧ q < 186 then some ⟨q - 164, by omega⟩
  else if h : 192 ≤ q ∧ q < 202 then some ⟨q - 170, by omega⟩
  else if h : 208 ≤ q ∧ q < 210 then some ⟨q - 176, by omega⟩
  else if h : 224 ≤ q ∧ q < 226 then some ⟨q - 224, by omega⟩
  else none

/-- A coefficient per slot: the rank's, zero at a slot that holds none. -/
def slotCoef (R : Fin 192 → EReal) (q : Nat) : EReal := (slotRank q).elim 0 R

/-- A small natural number, as a 32-bit word, is itself when read as a signed integer. -/
theorem toInt_small (n : Nat) (h : n < 257) : (BitVec.ofNat 32 n).toInt = n := by
  rw [BitVec.toInt_eq_toNat_cond, BitVec.toNat_ofNat, Nat.mod_eq_of_lt (by omega), if_pos (by omega)]

/-- The body's mask of a range of slots selects on the range. -/
theorem sel_range (q a b : Nat) (hq : q < 256) (ha : a < 257) (hb : b < 257) (x : EReal) :
    Scalar.select (IntOp.andi (IntOp.cmpi CmpIPredicate.sge (BitVec.ofNat 32 q) (BitVec.ofNat 32 a)) (IntOp.cmpi CmpIPredicate.slt (BitVec.ofNat 32 q) (BitVec.ofNat 32 b))) x 0
      = if a ≤ q ∧ q < b then x else 0 := by
  have e1 : IntOp.cmpi CmpIPredicate.sge (BitVec.ofNat 32 q) (BitVec.ofNat 32 a) = BitVec.ofBool (decide (a ≤ q)) := by
    show BitVec.ofBool _ = _
    congr 1
    rw [Bool.eq_iff_iff]
    simp [BitVec.sle, toInt_small q (by omega), toInt_small a ha]
  have e2 : IntOp.cmpi CmpIPredicate.slt (BitVec.ofNat 32 q) (BitVec.ofNat 32 b) = BitVec.ofBool (decide (q < b)) := by
    show BitVec.ofBool _ = _
    congr 1
    rw [Bool.eq_iff_iff]
    simp [BitVec.slt, toInt_small q (by omega), toInt_small b hb]
  rw [e1, e2]
  by_cases h1 : a ≤ q <;> by_cases h2 : q < b <;> simp [h1, h2, Scalar.select, IntOp.andi]

/-- The coefficient tile holds at each slot the product of the scales and the singular value of the rank there. -/
theorem coefTile_apply (vs : Vec F S3x192 .bf16) (sg : Vec F S3x192 .f32) (us : Vec F S3x192 .bf16) (d : Fin 3) (q : Fin 256) :
    coefTile vs sg us (ix2 d q) = slotCoef (fun r => vs (ix2 d r) * sg (ix2 d r) * us (ix2 d r)) q.val := by
  have hC : ∀ (p : Fin 256), k0_pay2 vs sg us (ix2 d p) = if h : p.val < 192 then vs (ix2 d ⟨p.val, h⟩) * sg (ix2 d ⟨p.val, h⟩) * us (ix2 d ⟨p.val, h⟩) else 0 := by
    intro p
    unfold k0_pay2
    pointwise
  unfold coefTile k0_pay6 k0_pay3 k0_pay4 k0_pay5
  generalize k0_pay2 vs sg us = C at hC ⊢
  pointwise
  have hq := q.isLt
  rw [sel_range q.val 0 158 hq (by decide) (by decide), sel_range q.val 160 170 hq (by decide) (by decide), sel_range q.val 176 186 hq (by decide) (by decide),
    sel_range q.val 192 202 hq (by decide) (by decide), sel_range q.val 208 210 hq (by decide) (by decide), sel_range q.val 224 226 hq (by decide) (by decide)]
  have hr : ∀ (p : Fin 256) (k : Nat) (hk : k < 192), p.val = k → C (ix2 d p) = vs (ix2 d ⟨k, hk⟩) * sg (ix2 d ⟨k, hk⟩) * us (ix2 d ⟨k, hk⟩) := by
    intro p k hk hp
    subst hp
    rw [hC, dif_pos hk]
  unfold slotCoef slotRank
  by_cases c1 : q.val < 158
  · rw [dif_pos c1, if_pos (by omega), if_neg (by omega), if_neg (by omega), if_neg (by omega), if_neg (by omega), if_neg (by omega), hr _ (q.val + 34) (by omega) (by dsimp only; omega)]
    simp only [add_zero, zero_add, Option.elim]
  rw [dif_neg c1, if_neg (by omega : ¬ (0 ≤ q.val ∧ q.val < 158))]
  by_cases c2 : 160 ≤ q.val ∧ q.val < 170
  · rw [dif_pos c2, if_pos c2, if_neg (by omega), if_neg (by omega), if_neg (by omega), if_neg (by omega), hr _ (q.val - 158) (by omega) (by dsimp only; omega)]
    simp only [add_zero, zero_add, Option.elim]
  rw [dif_neg c2, if_neg c2]
  by_cases c3 : 176 ≤ q.val ∧ q.val < 186
  · rw [dif_pos c3, if_pos c3, if_neg (by omega), if_neg (by omega), if_neg (by omega), hr _ (q.val - 164) (by omega) (by dsimp only; omega)]
    simp only [add_zero, zero_add, Option.elim]
  rw [dif_neg c3, if_neg c3]
  by_cases c4 : 192 ≤ q.val ∧ q.val < 202
  · rw [dif_pos c4, if_pos c4, if_neg (by omega), if_neg (by omega), hr _ (q.val - 170) (by omega) (by dsimp only; omega)]
    simp only [add_zero, zero_add, Option.elim]
  rw [dif_neg c4, if_neg c4]
  by_cases c5 : 208 ≤ q.val ∧ q.val < 210
  · rw [dif_pos c5, if_pos c5, if_neg (by omega), hr _ (q.val - 176) (by omega) (by dsimp only; omega)]
    simp only [add_zero, zero_add, Option.elim]
  rw [dif_neg c5, if_neg c5]
  by_cases c6 : 224 ≤ q.val ∧ q.val < 226
  · rw [dif_pos c6, if_pos c6, hr _ (q.val - 224) (by omega) (by dsimp only; omega)]
    simp only [add_zero, zero_add, Option.elim]
  rw [dif_neg c6, if_neg c6]
  simp only [add_zero, Option.elim]

/-- The stored shrink products at an index: the activations' dot product with the decoded factor's row, times the slot's coefficient. -/
theorem tpay_apply (X V : Vec F S1x256x1536 .bf16) (C : Vec F S1x256 .f32) (s q : Fin 256) :
    k0_pay96 X V C (ix3 0 s q) = (∑ n : Fin 1536, X (ix3 0 s n) * V (ix3 0 q n)) * C (ix2 0 q) := by
  unfold k0_pay96
  pointwise

/-- A row of the whole stored coefficients. -/
theorem coef_read {sg : RefSig} {κ : Kind} {sp : Space} (v : View sg κ sp S3x256 .f32) (f) (L : List (View.Piece (Elt F) S3x256 .f32)) (C : Vec F S3x256 .f32)
    (inb0 : ∀ i, (![0, 0] : Fin 2 → Nat) i + S3x256.size i ≤ S3x256.size i) (i : Fin 3) (off : Fin 2 → Nat) (hoff : off = ![i.val, 0])
    (inb : ∀ j, off j + S1x256.size j ≤ S3x256.size j) (q : Fin 256) :
    v.readAt (Elt F) (Rect.unit (s := S3x256) off S1x256.size inb).toLoadRect
      (v.writes (Elt F) f (⟨Rect.unit ![0, 0] S3x256.size inb0, C⟩ :: L)) (ix2 0 q) = C (ix2 i q) := by
  subst hoff
  rw [View.readAt_apply]
  refine View.read_writes_cons_hit_of_coords v f (Rect.unit (s := S3x256) ![0, 0] S3x256.size inb0) C L (ix2 i q) _ fun u => ?_
  match u with
  | ⟨0, _⟩ => show i.val + 1 * 0 = 0 + 1 * i.val; omega
  | ⟨1, _⟩ => show 0 + 1 * q.val = 0 + 1 * q.val; rfl

/-- A stored piece of the shrink products at an index, its operands named by their entries. -/
theorem tpiece_apply (A : Fin 3) (U : Fin 3 → FVec F S1x256x1536 .bf16) (X : Vec F S1x256x1536 .bf16) (C : Vec F S3x256 .f32)
    (Uv : Fin 3 → Fin 1536 → Fin 256 → EReal) (Xv : Fin 256 → Fin 1536 → EReal) (Cv : Fin 3 → Fin 256 → EReal)
    (hU : ∀ d q n, U d (ix3 0 q n) = Uv d n q) (hX : ∀ s k, X (ix3 0 s k) = Xv s k) (hC : ∀ d q, C (ix2 d q) = Cv d q)
    {sg : RefSig} {κ : Kind} {sp : Space} (v : View sg κ sp S3x256x1536 .bf16) (f) (L : List (View.Piece (Elt F) S3x256x1536 .bf16))
    {sg' : RefSig} {κ' : Kind} {sp' : Space} (v' : View sg' κ' sp' S3x256 .f32) (f') (L' : List (View.Piece (Elt F) S3x256 .f32))
    (inb2 : ∀ i, (![2, 0, 0] : Fin 3 → Nat) i + S1x256x1536.size i ≤ S3x256x1536.size i)
    (inb1 : ∀ i, (![1, 0, 0] : Fin 3 → Nat) i + S1x256x1536.size i ≤ S3x256x1536.size i)
    (inb0 : ∀ i, (![0, 0, 0] : Fin 3 → Nat) i + S1x256x1536.size i ≤ S3x256x1536.size i)
    (inbc : ∀ i, (![0, 0] : Fin 2 → Nat) i + S3x256.size i ≤ S3x256.size i)
    (off : Fin 3 → Nat) (hoff : off = ![A.val, 0, 0]) (inb : ∀ j, off j + S1x256x1536.size j ≤ S3x256x1536.size j)
    (off' : Fin 2 → Nat) (hoff' : off' = ![A.val, 0]) (inb' : ∀ j, off' j + S1x256.size j ≤ S3x256.size j) (s q : Fin 256) :
    k0_pay96 X (v.readAt (Elt F) (Rect.unit (s := S3x256x1536) off S1x256x1536.size inb).toLoadRect
        (v.writes (Elt F) f (⟨Rect.unit ![2, 0, 0] S1x256x1536.size inb2, U 2⟩ :: ⟨Rect.unit ![1, 0, 0] S1x256x1536.size inb1, U 1⟩ ::
          ⟨Rect.unit ![0, 0, 0] S1x256x1536.size inb0, U 0⟩ :: L)))
      (v'.readAt (Elt F) (Rect.unit (s := S3x256) off' S1x256.size inb').toLoadRect
        (v'.writes (Elt F) f' (⟨Rect.unit ![0, 0] S3x256.size inbc, C⟩ :: L'))) (ix3 0 s q)
      = (∑ n : Fin 1536, Xv s n * Uv A n q) * Cv A q := by
  rw [tpay_apply]
  congr 1
  · refine Finset.sum_congr rfl fun n _ => ?_
    rw [hX, ← hU A q n]
    congr 1
    exact vt_read v f L 0 U inb2 inb1 inb0 A off hoff inb q n
  · rw [← hC]
    exact coef_read v' f' L' C inbc A off' hoff' inb' q

section Out

variable (m : (ℓ : Loc nD τ sig) → Buf (Elt Ideal) ℓ) (c : Dev nD) (t : Fin cfg0.N)

/-- The coefficients of the point's blocks, moved onto the slots. -/
def cTile : FVec F S3x256 .f32 :=
  coefTile ((ms0_10 t).view.readAt (Elt F) (Rect.unit (s := S3x192) ![0, 0] S3x192.size (inb2 (A := 3) (B := 192) (a := 0) (b := 0) (n1 := 3) (n2 := 192) (by decide) (by decide))).toLoadRect ((hs0_10 t).unread (iblk m c 10 t)))
    ((ms0_12 t).view.readAt (Elt F) (Rect.unit (s := S3x192) ![0, 0] S3x192.size (inb2 (A := 3) (B := 192) (a := 0) (b := 0) (n1 := 3) (n2 := 192) (by decide) (by decide))).toLoadRect ((hs0_12 t).unread (iblk m c 12 t)))
    ((ms0_11 t).view.readAt (Elt F) (Rect.unit (s := S3x192) ![0, 0] S3x192.size (inb2 (A := 3) (B := 192) (a := 0) (b := 0) (n1 := 3) (n2 := 192) (by decide) (by decide))).toLoadRect ((hs0_11 t).unread (iblk m c 11 t)))

/-- A scale of the second factor. -/
def vsVal (d : Fin 3) (r : Fin 192) : EReal := iblk m c 10 t (ix2 d r)

/-- A scale of the first factor. -/
def usVal (d : Fin 3) (r : Fin 192) : EReal := iblk m c 11 t (ix2 d r)

/-- A singular value. -/
def sgVal (d : Fin 3) (r : Fin 192) : EReal := iblk m c 12 t (ix2 d r)

/-- The coefficient of a rank: its factors' scales and its singular value. -/
def rankVal (d : Fin 3) (r : Fin 192) : EReal := vsVal m c t d r * sgVal m c t d r * usVal m c t d r

/-- The same of the coefficient tile that the body stores. -/
theorem cTile_apply (d : Fin 3) (q : Fin 256) : cTile m c t (ix2 d q) = slotCoef (rankVal m c t d) q.val := by
  unfold cTile
  rw [coefTile_apply]
  congr 1
  funext r
  rw [load2 (ms0_10 t) (hs0_10 t) (iblk m c 10 t) _ d r d r (by simp) (by simp), load2 (ms0_11 t) (hs0_11 t) (iblk m c 11 t) _ d r d r (by simp) (by simp),
    load2 (ms0_12 t) (hs0_12 t) (iblk m c 12 t) _ d r d r (by simp) (by simp)]
  rfl

/-- The shrink products of a point's blocks at an index. -/
def tVal (h : ∀ y, (iblk m c 0 t y).toNat < 3) (y : S6x256x256.Idx) : EReal :=
  (∑ n : Fin 1536, xVal m c t (y 0) (y 1) n * vSlot m c t (adap m c t h (y 0)) n (y 2)) * slotCoef (rankVal m c t (adap m c t h (y 0))) (y 2).val

/-- The corner of the coefficient row that the body reads is the row of the batch entry's delta. -/
theorem off2_eq (h : ∀ y, (iblk m c 0 t y).toNat < 3) (b : Fin 6) : (![(word m c t b).toNat, 0] : Fin 2 → Nat) = ![(adap m c t h b).val, 0] := by
  show _ = (![BitVec.toNat (iblk m c 0 t (ix1 b)), 0] : Fin 2 → Nat)
  rw [word_eq]

/-- Every stored piece is the shrink products there. -/
theorem t_piece (h : ∀ y, (iblk m c 0 t y).toNat < 3) (b : Fin 6)
    {sg : RefSig} {κ : Kind} {sp : Space} (v : View sg κ sp S3x256x1536 .bf16) (f) (L : List (View.Piece (Elt F) S3x256x1536 .bf16))
    {sg' : RefSig} {κ' : Kind} {sp' : Space} (v' : View sg' κ' sp' S3x256 .f32) (f') (L' : List (View.Piece (Elt F) S3x256 .f32))
    (inb2 : ∀ i, (![2, 0, 0] : Fin 3 → Nat) i + S1x256x1536.size i ≤ S3x256x1536.size i)
    (inb1 : ∀ i, (![1, 0, 0] : Fin 3 → Nat) i + S1x256x1536.size i ≤ S3x256x1536.size i)
    (inb0 : ∀ i, (![0, 0, 0] : Fin 3 → Nat) i + S1x256x1536.size i ≤ S3x256x1536.size i)
    (inbc : ∀ i, (![0, 0] : Fin 2 → Nat) i + S3x256.size i ≤ S3x256.size i)
    (inb : ∀ j, (![(word m c t b).toNat, 0, 0] : Fin 3 → Nat) j + S1x256x1536.size j ≤ S3x256x1536.size j)
    (inb' : ∀ j, (![(word m c t b).toNat, 0] : Fin 2 → Nat) j + S1x256.size j ≤ S3x256.size j)
    (x : S1x256x256.Idx) (y : S6x256x256.Idx) (h0 : (y 0).val = b.val + (x 0).val) (h1 : (y 1).val = (x 1).val) (h2 : (y 2).val = (x 2).val) :
    k0_pay96 (xTile m c t b) (v.readAt (Elt F) (Rect.unit (s := S3x256x1536) ![(word m c t b).toNat, 0, 0] S1x256x1536.size inb).toLoadRect
        (v.writes (Elt F) f (⟨Rect.unit ![2, 0, 0] S1x256x1536.size inb2, vTile m c t 2⟩ :: ⟨Rect.unit ![1, 0, 0] S1x256x1536.size inb1, vTile m c t 1⟩ ::
          ⟨Rect.unit ![0, 0, 0] S1x256x1536.size inb0, vTile m c t 0⟩ :: L)))
      (v'.readAt (Elt F) (Rect.unit (s := S3x256) ![(word m c t b).toNat, 0] S1x256.size inb').toLoadRect
        (v'.writes (Elt F) f' (⟨Rect.unit ![0, 0] S3x256.size inbc, cTile m c t⟩ :: L'))) x = tVal m c t h y := by
  obtain ⟨x0, s, q, rfl⟩ : ∃ (x0 : Fin 1) (s q : Fin 256), x = ix3 x0 s q := ⟨x 0, x 1, x 2, (ix3_eta x).symm⟩
  obtain rfl : x0 = 0 := Subsingleton.elim _ _
  have e0 : y 0 = b := Fin.ext (by rw [h0]; rfl)
  have e1 : y 1 = s := Fin.ext h1
  have e2 : y 2 = q := Fin.ext h2
  have key := tpiece_apply (adap m c t h b) (fun d => vTile m c t d) (xTile m c t b) (cTile m c t) (vSlot m c t) (xVal m c t b) (fun d q => slotCoef (rankVal m c t d) q.val)
    (fun d q n => vTile_apply m c t d q n) (fun s k => xTile_apply m c t b s k) (fun d q => cTile_apply m c t d q) v f L v' f' L' inb2 inb1 inb0 inbc
    _ (off_eq m c t h b 0) inb _ (off2_eq m c t h b) inb' s q
  unfold tVal
  rw [e0, e1, e2]
  with_reducible exact key

set_option maxHeartbeats 0 in
/-- A point that computes the shrink products leaves them in the scratch. -/
theorem t_A (hH : Hyps m) (hw : ∀ y, (iblk m c 0 t y).toNat < 3) (h0 : t.val % 7 = 0) (y : S6x256x256.Idx) :
    (outsAt0 m hH c t.val t.isLt).2.1 y = tVal m c t hw y := by
  rw [outsAt0_A m hH c t h0]
  dsimp only
  frame_open
  simp only [View.read_writes_junk_eq_canon]
  canon_tiles x h
  · exact t_piece m c t hw 5 _ _ _ _ _ _ _ _ _ _ _ _ x y (by omega) (by omega) (by omega)
  · exact t_piece m c t hw 4 _ _ _ _ _ _ _ _ _ _ _ _ x y (by omega) (by omega) (by omega)
  · exact t_piece m c t hw 3 _ _ _ _ _ _ _ _ _ _ _ _ x y (by omega) (by omega) (by omega)
  · exact t_piece m c t hw 2 _ _ _ _ _ _ _ _ _ _ _ _ x y (by omega) (by omega) (by omega)
  · exact t_piece m c t hw 1 _ _ _ _ _ _ _ _ _ _ _ _ x y (by omega) (by omega) (by omega)
  · exact t_piece m c t hw 0 _ _ _ _ _ _ _ _ _ _ _ _ x y (by omega) (by omega) (by omega)

/-- A later point leaves the scratch as it was. -/
theorem t_B (hH : Hyps m) (h0 : ¬t.val % 7 = 0) (hj) (y : S6x256x256.Idx) :
    (outsAt0 m hH c t.val t.isLt).2.1 y = (outsAt0 m hH c (t.val - 1) hj).2.1 y := by
  rw [outsAt0_B m hH c t h0]
  rfl

end Out

end Cert.KernelIdeal.Own
-- ==== Proof.OutA.lean ====
/- The output block of a point that computes the shrink products. -/
module

public import proofs.«01_k».proof.Proof.Shrink

@[expose] public section

set_option maxRecDepth 16384
noncomputable section
namespace Cert.KernelIdeal.Own

open Idealize.ShloMosaic Idealize.ShloMosaic.TcCoe Idealize.SL.Sem Cert.KernelIdeal Cert.KernelIdeal.Gen

local notation "F" => Idealize.ShloMosaic.Ideal

/-- A load of one batch entry's block of what the writes left. -/
theorem tb_cov {sg : RefSig} {κ : Kind} {sp : Space} (v : View sg κ sp S6x256x256 .bf16) (L : List (View.Piece (Elt F) S6x256x256 .bf16)) (b : Fin 6)
    (inb : ∀ i, (![b.val, 0, 0] : Fin 3 → Nat) i + S1x256x256.size i ≤ S6x256x256.size i) (s q : Fin 256) :
    v.readCov L (Rect.unit (s := S6x256x256) ![b.val, 0, 0] S1x256x256.size inb).toLoadRect (ix3 0 s q) = v.read (Elt F) (v.writes (Elt F) v.junk L) (ix3 b s q) := by
  unfold View.readCov
  rw [View.readAt_apply]
  congr 1
  funext u
  apply Fin.ext
  match u with
  | ⟨0, _⟩ => show b.val + 1 * 0 = b.val; omega
  | ⟨1, _⟩ => show 0 + 1 * s.val = s.val; omega
  | ⟨2, _⟩ => show 0 + 1 * q.val = q.val; omega

set_option maxHeartbeats 0 in
/-- At a point that computes the shrink products, the output block is the base sum plus the products against the decoded factor. -/
theorem out_A (m : (ℓ : Loc nD τ sig) → Buf (Elt Ideal) ℓ) (hH : Hyps m) (c : Dev nD) (t : Fin cfg0.N) (hw : ∀ y, (iblk m c 0 t y).toNat < 3)
    (h0 : t.val % 7 = 0) (y) :
    (outsAt0 m hH c t.val t.isLt).1 y = outVal m c t hw (tVal m c t hw) y := by
  have hT := t_A m c t hH hw h0
  rw [outsAt0_A m hH c t h0] at hT ⊢
  dsimp only at hT ⊢
  frame_open
  simp only [View.read_writes_junk_eq_canon]
  canon_tiles x h

  · exact out_piece m c t hw _ 5 1024 (by decide) _ _ _ _ _ _ _ _ (fun s q => (tb_cov _ _ 5 _ s q).trans (hT _)) x y (by omega) (by omega) (by omega)
  · exact out_piece m c t hw _ 4 1024 (by decide) _ _ _ _ _ _ _ _ (fun s q => (tb_cov _ _ 4 _ s q).trans (hT _)) x y (by omega) (by omega) (by omega)
  · exact out_piece m c t hw _ 3 1024 (by decide) _ _ _ _ _ _ _ _ (fun s q => (tb_cov _ _ 3 _ s q).trans (hT _)) x y (by omega) (by omega) (by omega)
  · exact out_piece m c t hw _ 2 1024 (by decide) _ _ _ _ _ _ _ _ (fun s q => (tb_cov _ _ 2 _ s q).trans (hT _)) x y (by omega) (by omega) (by omega)
  · exact out_piece m c t hw _ 1 1024 (by decide) _ _ _ _ _ _ _ _ (fun s q => (tb_cov _ _ 1 _ s q).trans (hT _)) x y (by omega) (by omega) (by omega)
  · exact out_piece m c t hw _ 0 1024 (by decide) _ _ _ _ _ _ _ _ (fun s q => (tb_cov _ _ 0 _ s q).trans (hT _)) x y (by omega) (by omega) (by omega)
  · exact out_piece m c t hw _ 5 768 (by decide) _ _ _ _ _ _ _ _ (fun s q => (tb_cov _ _ 5 _ s q).trans (hT _)) x y (by omega) (by omega) (by omega)
  · exact out_piece m c t hw _ 4 768 (by decide) _ _ _ _ _ _ _ _ (fun s q => (tb_cov _ _ 4 _ s q).trans (hT _)) x y (by omega) (by omega) (by omega)
  · exact out_piece m c t hw _ 3 768 (by decide) _ _ _ _ _ _ _ _ (fun s q => (tb_cov _ _ 3 _ s q).trans (hT _)) x y (by omega) (by omega) (by omega)
  · exact out_piece m c t hw _ 2 768 (by decide) _ _ _ _ _ _ _ _ (fun s q => (tb_cov _ _ 2 _ s q).trans (hT _)) x y (by omega) (by omega) (by omega)
  · exact out_piece m c t hw _ 1 768 (by decide) _ _ _ _ _ _ _ _ (fun s q => (tb_cov _ _ 1 _ s q).trans (hT _)) x y (by omega) (by omega) (by omega)
  · exact out_piece m c t hw _ 0 768 (by decide) _ _ _ _ _ _ _ _ (fun s q => (tb_cov _ _ 0 _ s q).trans (hT _)) x y (by omega) (by omega) (by omega)
  · exact out_piece m c t hw _ 5 512 (by decide) _ _ _ _ _ _ _ _ (fun s q => (tb_cov _ _ 5 _ s q).trans (hT _)) x y (by omega) (by omega) (by omega)
  · exact out_piece m c t hw _ 4 512 (by decide) _ _ _ _ _ _ _ _ (fun s q => (tb_cov _ _ 4 _ s q).trans (hT _)) x y (by omega) (by omega) (by omega)
  · exact out_piece m c t hw _ 3 512 (by decide) _ _ _ _ _ _ _ _ (fun s q => (tb_cov _ _ 3 _ s q).trans (hT _)) x y (by omega) (by omega) (by omega)
  · exact out_piece m c t hw _ 2 512 (by decide) _ _ _ _ _ _ _ _ (fun s q => (tb_cov _ _ 2 _ s q).trans (hT _)) x y (by omega) (by omega) (by omega)
  · exact out_piece m c t hw _ 1 512 (by decide) _ _ _ _ _ _ _ _ (fun s q => (tb_cov _ _ 1 _ s q).trans (hT _)) x y (by omega) (by omega) (by omega)
  · exact out_piece m c t hw _ 0 512 (by decide) _ _ _ _ _ _ _ _ (fun s q => (tb_cov _ _ 0 _ s q).trans (hT _)) x y (by omega) (by omega) (by omega)
  · exact out_piece m c t hw _ 5 256 (by decide) _ _ _ _ _ _ _ _ (fun s q => (tb_cov _ _ 5 _ s q).trans (hT _)) x y (by omega) (by omega) (by omega)
  · exact out_piece m c t hw _ 4 256 (by decide) _ _ _ _ _ _ _ _ (fun s q => (tb_cov _ _ 4 _ s q).trans (hT _)) x y (by omega) (by omega) (by omega)
  · exact out_piece m c t hw _ 3 256 (by decide) _ _ _ _ _ _ _ _ (fun s q => (tb_cov _ _ 3 _ s q).trans (hT _)) x y (by omega) (by omega) (by omega)
  · exact out_piece m c t hw _ 2 256 (by decide) _ _ _ _ _ _ _ _ (fun s q => (tb_cov _ _ 2 _ s q).trans (hT _)) x y (by omega) (by omega) (by omega)
  · exact out_piece m c t hw _ 1 256 (by decide) _ _ _ _ _ _ _ _ (fun s q => (tb_cov _ _ 1 _ s q).trans (hT _)) x y (by omega) (by omega) (by omega)
  · exact out_piece m c t hw _ 0 256 (by decide) _ _ _ _ _ _ _ _ (fun s q => (tb_cov _ _ 0 _ s q).trans (hT _)) x y (by omega) (by omega) (by omega)
  · exact out_piece m c t hw _ 5 0 (by decide) _ _ _ _ _ _ _ _ (fun s q => (tb_cov _ _ 5 _ s q).trans (hT _)) x y (by omega) (by omega) (by omega)
  · exact out_piece m c t hw _ 4 0 (by decide) _ _ _ _ _ _ _ _ (fun s q => (tb_cov _ _ 4 _ s q).trans (hT _)) x y (by omega) (by omega) (by omega)
  · exact out_piece m c t hw _ 3 0 (by decide) _ _ _ _ _ _ _ _ (fun s q => (tb_cov _ _ 3 _ s q).trans (hT _)) x y (by omega) (by omega) (by omega)
  · exact out_piece m c t hw _ 2 0 (by decide) _ _ _ _ _ _ _ _ (fun s q => (tb_cov _ _ 2 _ s q).trans (hT _)) x y (by omega) (by omega) (by omega)
  · exact out_piece m c t hw _ 1 0 (by decide) _ _ _ _ _ _ _ _ (fun s q => (tb_cov _ _ 1 _ s q).trans (hT _)) x y (by omega) (by omega) (by omega)
  · exact out_piece m c t hw _ 0 0 (by decide) _ _ _ _ _ _ _ _ (fun s q => (tb_cov _ _ 0 _ s q).trans (hT _)) x y (by omega) (by omega) (by omega)

end Cert.KernelIdeal.Own
-- ==== Proof.OutB.lean ====
/- The output block and the shrink products of every grid point. -/
module

public import proofs.«01_k».proof.Proof.Tile

@[expose] public section

set_option maxRecDepth 16384
noncomputable section
namespace Cert.KernelIdeal.Own

open Idealize.ShloMosaic Idealize.ShloMosaic.TcCoe Idealize.SL.Sem Cert.KernelIdeal Cert.KernelIdeal.Gen

local notation "F" => Idealize.ShloMosaic.Ideal

/-- A load of one batch entry's block of a whole scratch. -/
theorem tb_held (M : Memref sig .tc .vmem S6x256x256 .bf16) (hM : M.IsWhole) (X : Vec F S6x256x256 .bf16) (b : Fin 6)
    (inb : ∀ i, (![b.val, 0, 0] : Fin 3 → Nat) i + S1x256x256.size i ≤ S6x256x256.size i) (s q : Fin 256) :
    M.view.readAt (Elt F) (Rect.unit (s := S6x256x256) ![b.val, 0, 0] S1x256x256.size inb).toLoadRect (hM.unread X) (ix3 0 s q) = X (ix3 b s q) :=
  load3 M hM X inb 0 s q b s q rfl (by simp) (by simp)

set_option maxHeartbeats 0 in
/-- At a point that carries the shrink products `T`, the output block is the base sum plus the products against the decoded factor. -/
theorem out_B (m : (ℓ : Loc nD τ sig) → Buf (Elt Ideal) ℓ) (hH : Hyps m) (c : Dev nD) (t : Fin cfg0.N) (hw : ∀ y, (iblk m c 0 t y).toNat < 3)
    (h0 : ¬t.val % 7 = 0) (T : S6x256x256.Idx → EReal) (hT : ∀ j (y : S6x256x256.Idx), (outsAt0 m hH c (t.val - 1) j).2.1 y = T y) (y) :
    (outsAt0 m hH c t.val t.isLt).1 y = outVal m c t hw T y := by
  rw [outsAt0_B m hH c t h0]
  dsimp only
  frame_open
  simp only [View.read_writes_junk_eq_canon]
  canon_tiles x h

  · exact out_piece m c t hw T 5 1024 (by decide) _ _ _ _ _ _ _ _ (fun s q => (tb_held _ _ _ 5 _ s q).trans (hT _ _)) x y (by omega) (by omega) (by omega)
  · exact out_piece m c t hw T 4 1024 (by decide) _ _ _ _ _ _ _ _ (fun s q => (tb_held _ _ _ 4 _ s q).trans (hT _ _)) x y (by omega) (by omega) (by omega)
  · exact out_piece m c t hw T 3 1024 (by decide) _ _ _ _ _ _ _ _ (fun s q => (tb_held _ _ _ 3 _ s q).trans (hT _ _)) x y (by omega) (by omega) (by omega)
  · exact out_piece m c t hw T 2 1024 (by decide) _ _ _ _ _ _ _ _ (fun s q => (tb_held _ _ _ 2 _ s q).trans (hT _ _)) x y (by omega) (by omega) (by omega)
  · exact out_piece m c t hw T 1 1024 (by decide) _ _ _ _ _ _ _ _ (fun s q => (tb_held _ _ _ 1 _ s q).trans (hT _ _)) x y (by omega) (by omega) (by omega)
  · exact out_piece m c t hw T 0 1024 (by decide) _ _ _ _ _ _ _ _ (fun s q => (tb_held _ _ _ 0 _ s q).trans (hT _ _)) x y (by omega) (by omega) (by omega)
  · exact out_piece m c t hw T 5 768 (by decide) _ _ _ _ _ _ _ _ (fun s q => (tb_held _ _ _ 5 _ s q).trans (hT _ _)) x y (by omega) (by omega) (by omega)
  · exact out_piece m c t hw T 4 768 (by decide) _ _ _ _ _ _ _ _ (fun s q => (tb_held _ _ _ 4 _ s q).trans (hT _ _)) x y (by omega) (by omega) (by omega)
  · exact out_piece m c t hw T 3 768 (by decide) _ _ _ _ _ _ _ _ (fun s q => (tb_held _ _ _ 3 _ s q).trans (hT _ _)) x y (by omega) (by omega) (by omega)
  · exact out_piece m c t hw T 2 768 (by decide) _ _ _ _ _ _ _ _ (fun s q => (tb_held _ _ _ 2 _ s q).trans (hT _ _)) x y (by omega) (by omega) (by omega)
  · exact out_piece m c t hw T 1 768 (by decide) _ _ _ _ _ _ _ _ (fun s q => (tb_held _ _ _ 1 _ s q).trans (hT _ _)) x y (by omega) (by omega) (by omega)
  · exact out_piece m c t hw T 0 768 (by decide) _ _ _ _ _ _ _ _ (fun s q => (tb_held _ _ _ 0 _ s q).trans (hT _ _)) x y (by omega) (by omega) (by omega)
  · exact out_piece m c t hw T 5 512 (by decide) _ _ _ _ _ _ _ _ (fun s q => (tb_held _ _ _ 5 _ s q).trans (hT _ _)) x y (by omega) (by omega) (by omega)
  · exact out_piece m c t hw T 4 512 (by decide) _ _ _ _ _ _ _ _ (fun s q => (tb_held _ _ _ 4 _ s q).trans (hT _ _)) x y (by omega) (by omega) (by omega)
  · exact out_piece m c t hw T 3 512 (by decide) _ _ _ _ _ _ _ _ (fun s q => (tb_held _ _ _ 3 _ s q).trans (hT _ _)) x y (by omega) (by omega) (by omega)
  · exact out_piece m c t hw T 2 512 (by decide) _ _ _ _ _ _ _ _ (fun s q => (tb_held _ _ _ 2 _ s q).trans (hT _ _)) x y (by omega) (by omega) (by omega)
  · exact out_piece m c t hw T 1 512 (by decide) _ _ _ _ _ _ _ _ (fun s q => (tb_held _ _ _ 1 _ s q).trans (hT _ _)) x y (by omega) (by omega) (by omega)
  · exact out_piece m c t hw T 0 512 (by decide) _ _ _ _ _ _ _ _ (fun s q => (tb_held _ _ _ 0 _ s q).trans (hT _ _)) x y (by omega) (by omega) (by omega)
  · exact out_piece m c t hw T 5 256 (by decide) _ _ _ _ _ _ _ _ (fun s q => (tb_held _ _ _ 5 _ s q).trans (hT _ _)) x y (by omega) (by omega) (by omega)
  · exact out_piece m c t hw T 4 256 (by decide) _ _ _ _ _ _ _ _ (fun s q => (tb_held _ _ _ 4 _ s q).trans (hT _ _)) x y (by omega) (by omega) (by omega)
  · exact out_piece m c t hw T 3 256 (by decide) _ _ _ _ _ _ _ _ (fun s q => (tb_held _ _ _ 3 _ s q).trans (hT _ _)) x y (by omega) (by omega) (by omega)
  · exact out_piece m c t hw T 2 256 (by decide) _ _ _ _ _ _ _ _ (fun s q => (tb_held _ _ _ 2 _ s q).trans (hT _ _)) x y (by omega) (by omega) (by omega)
  · exact out_piece m c t hw T 1 256 (by decide) _ _ _ _ _ _ _ _ (fun s q => (tb_held _ _ _ 1 _ s q).trans (hT _ _)) x y (by omega) (by omega) (by omega)
  · exact out_piece m c t hw T 0 256 (by decide) _ _ _ _ _ _ _ _ (fun s q => (tb_held _ _ _ 0 _ s q).trans (hT _ _)) x y (by omega) (by omega) (by omega)
  · exact out_piece m c t hw T 5 0 (by decide) _ _ _ _ _ _ _ _ (fun s q => (tb_held _ _ _ 5 _ s q).trans (hT _ _)) x y (by omega) (by omega) (by omega)
  · exact out_piece m c t hw T 4 0 (by decide) _ _ _ _ _ _ _ _ (fun s q => (tb_held _ _ _ 4 _ s q).trans (hT _ _)) x y (by omega) (by omega) (by omega)
  · exact out_piece m c t hw T 3 0 (by decide) _ _ _ _ _ _ _ _ (fun s q => (tb_held _ _ _ 3 _ s q).trans (hT _ _)) x y (by omega) (by omega) (by omega)
  · exact out_piece m c t hw T 2 0 (by decide) _ _ _ _ _ _ _ _ (fun s q => (tb_held _ _ _ 2 _ s q).trans (hT _ _)) x y (by omega) (by omega) (by omega)
  · exact out_piece m c t hw T 1 0 (by decide) _ _ _ _ _ _ _ _ (fun s q => (tb_held _ _ _ 1 _ s q).trans (hT _ _)) x y (by omega) (by omega) (by omega)
  · exact out_piece m c t hw T 0 0 (by decide) _ _ _ _ _ _ _ _ (fun s q => (tb_held _ _ _ 0 _ s q).trans (hT _ _)) x y (by omega) (by omega) (by omega)

end Cert.KernelIdeal.Own
-- ==== Proof.Blocks.lean ====
/- The points' blocks read in the arguments, and the kernel's whole result at an index. -/
module

public import proofs.«01_k».proof.Proof.Shrink

@[expose] public section

set_option maxRecDepth 16384
noncomputable section
namespace Cert.KernelIdeal.Own

open Idealize.ShloMosaic Idealize.ShloMosaic.TcCoe Idealize.SL.Sem Cert.KernelIdeal Cert.KernelIdeal.Gen

local notation "F" => Idealize.ShloMosaic.Ideal

section Args

variable (a0 : Vec F S6x256x1536 .bf16) (a1 : Vec F S768x8960 .i8) (a2 : Vec F S12x8960 .bf16) (a3 : Vec F S3x1536x2 .i8) (a4 : Vec F S3x8960x2 .i8)
  (a5 : Vec F S3x1536x4 .i32) (a6 : Vec F S3x8960x4 .i32) (a7 : Vec F S3x1536x10 .i32) (a8 : Vec F S3x8960x10 .i32)
  (a9 : Vec F S3x192 .bf16) (a10 : Vec F S3x192 .bf16) (a11 : Vec F S3x192 .f32) (a12 : Vec F S6 .i32)

/-- The adapter of a batch entry. -/
def argAdap (b : Fin 6) : Fin 3 := ⟨BitVec.toNat (a12 (ix1 b)) % 3, Nat.mod_lt _ (by decide)⟩

/-- An activation. -/
def argX (b : Fin 6) (s : Fin 256) (k : Fin 1536) : EReal := a0 (ix3 b s k)

/-- A scale of the base weights. -/
def argS (g : Fin 12) (n : Fin 8960) : EReal := a2 (ix2 g n)

/-- A decoded base weight. -/
def argW (k : Fin 1536) (n : Fin 8960) : EReal := nibVal (a1 (ix2 ⟨k.val / 2, by omega⟩ n)) (k.val % 2) * argS a2 ⟨k.val / 128, by omega⟩ n

/-- A slot of the decoded second factor. -/
def argV (d : Fin 3) (n : Fin 1536) (q : Fin 256) : EReal :=
  slotVal (fun w => a7 (ix3 d n w)) (fun w => a5 (ix3 d n w)) (a3 (ix3 d n 0)) (a3 (ix3 d n 1)) q.val

/-- A slot of the decoded first factor. -/
def argU (d : Fin 3) (n : Fin 8960) (q : Fin 256) : EReal :=
  slotVal (fun w => a8 (ix3 d n w)) (fun w => a6 (ix3 d n w)) (a4 (ix3 d n 0)) (a4 (ix3 d n 1)) q.val

/-- A scale of the second factor, of the first, and a singular value. -/
def argVs (d : Fin 3) (r : Fin 192) : EReal := a9 (ix2 d r)
/-- A scale of the first factor. -/
def argUs (d : Fin 3) (r : Fin 192) : EReal := a10 (ix2 d r)
/-- A singular value. -/
def argSg (d : Fin 3) (r : Fin 192) : EReal := a11 (ix2 d r)

/-- The coefficient of a rank. -/
def argC (d : Fin 3) (r : Fin 192) : EReal := argVs a9 d r * argSg a11 d r * argUs a10 d r

/-- The shrink products. -/
def argT (b : Fin 6) (s q : Fin 256) : EReal :=
  (∑ n : Fin 1536, argX a0 b s n * argV a3 a5 a7 (argAdap a12 b) n q) * slotCoef (argC a9 a10 a11 (argAdap a12 b)) q.val

/-- What the kernel computes at an index. -/
def kernelVal (b : Fin 6) (s : Fin 256) (n : Fin 8960) : EReal :=
  (∑ k : Fin 1536, argX a0 b s k * argW a1 a2 k n) + ∑ q : Fin 256, argT a0 a3 a5 a7 a9 a10 a11 a12 b s q * argU a4 a6 a8 (argAdap a12 b) n q

end Args

section
variable (m : (ℓ : Loc nD τ sig) → Buf (Elt Ideal) ℓ) (c : Dev nD) (t : Fin cfg0.N)

/-- The array's column at a point's column. -/
def col (t : Fin cfg0.N) (n : Fin 1280) : Fin 8960 := ⟨t.val * 1280 + n.val, by have := t.isLt; have : cfg0.N = 7 := rfl; omega⟩

/-- The block indices of every window at a point. -/
theorem idx : ∀ t : Fin cfg0.N, win0_0.index t = ![0] ∧ win0_1.index t = ![0, 0, 0] ∧ win0_2.index t = ![0, t.val] ∧ win0_3.index t = ![0, t.val]
    ∧ win0_4.index t = ![0, 0, 0] ∧ win0_5.index t = ![0, 0, t.val] ∧ win0_6.index t = ![0, 0, 0] ∧ win0_7.index t = ![0, 0, t.val]
    ∧ win0_8.index t = ![0, 0, 0] ∧ win0_9.index t = ![0, 0, t.val] ∧ win0_10.index t = ![0, 0] ∧ win0_11.index t = ![0, 0] ∧ win0_12.index t = ![0, 0]
    ∧ win0_13.index t = ![0, 0, t.val] :=
  (by decide +kernel : ∀ t : Fin grid0.N, _)

/-- The block of `delta_idx` at every grid step is the whole argument. -/
theorem blk0 (b : Fin 6) : iblk m c 0 t (ix1 b) = m ((c : Thread nD τ).loc main_arg12) (ix1 b) := by
  blk_ext [iblk, V, idx t]

/-- The block of the activations at every grid step is the whole argument. -/
theorem blk1 (b : Fin 6) (s : Fin 256) (k : Fin 1536) : iblk m c 1 t (ix3 b s k) = m ((c : Thread nD τ).loc main_arg0) (ix3 b s k) := by
  blk_ext [iblk, V, idx t]

/-- The base weights' block at step `t` holds the packed columns from `1280 t` on. -/
theorem blk2 (k : Fin 768) (n : Fin 1280) : iblk m c 2 t (ix2 k n) = m ((c : Thread nD τ).loc main_arg1) (ix2 k ⟨t.val * 1280 + n.val, by have := t.isLt; have : cfg0.N = 7 := rfl; omega⟩) := by
  blk_ext [iblk, V, idx t]

/-- The base scales' block at step `t` holds the columns from `1280 t` on. -/
theorem blk3 (k : Fin 12) (n : Fin 1280) : iblk m c 3 t (ix2 k n) = m ((c : Thread nD τ).loc main_arg2) (ix2 k ⟨t.val * 1280 + n.val, by have := t.isLt; have : cfg0.N = 7 := rfl; omega⟩) := by
  blk_ext [iblk, V, idx t]

/-- The block of the second factor's bytes is the whole argument, the byte's number first. -/
theorem blk4 (h : Fin 2) (d : Fin 3) (n : Fin 1536) : iblk m c 4 t (ix3 h d n) = m ((c : Thread nD τ).loc main_arg3) (ix3 d n h) := by
  blk_ext! [iblk, V, idx t]

/-- The block of the first factor's bytes holds the rows from `1280 t` on, the byte's number first. -/
theorem blk5 (h : Fin 2) (d : Fin 3) (n : Fin 1280) : iblk m c 5 t (ix3 h d n) = m ((c : Thread nD τ).loc main_arg4) (ix3 d ⟨t.val * 1280 + n.val, by have := t.isLt; have : cfg0.N = 7 := rfl; omega⟩ h) := by
  blk_ext! [iblk, V, idx t]

/-- The block of the second factor's three-bit words is the whole argument, the word's number in the middle. -/
theorem blk6 (d : Fin 3) (h : Fin 4) (n : Fin 1536) : iblk m c 6 t (ix3 d h n) = m ((c : Thread nD τ).loc main_arg5) (ix3 d n h) := by
  blk_ext! [iblk, V, idx t]

/-- The block of the first factor's three-bit words holds the rows from `1280 t` on, the word's number in the middle. -/
theorem blk7 (d : Fin 3) (h : Fin 4) (n : Fin 1280) : iblk m c 7 t (ix3 d h n) = m ((c : Thread nD τ).loc main_arg6) (ix3 d ⟨t.val * 1280 + n.val, by have := t.isLt; have : cfg0.N = 7 := rfl; omega⟩ h) := by
  blk_ext! [iblk, V, idx t]

/-- The block of the second factor's two-bit words is the whole argument, the word's number first. -/
theorem blk8 (h : Fin 10) (d : Fin 3) (n : Fin 1536) : iblk m c 8 t (ix3 h d n) = m ((c : Thread nD τ).loc main_arg7) (ix3 d n h) := by
  blk_ext! [iblk, V, idx t]

/-- The block of the first factor's two-bit words holds the rows from `1280 t` on, the word's number first. -/
theorem blk9 (h : Fin 10) (d : Fin 3) (n : Fin 1280) : iblk m c 9 t (ix3 h d n) = m ((c : Thread nD τ).loc main_arg8) (ix3 d ⟨t.val * 1280 + n.val, by have := t.isLt; have : cfg0.N = 7 := rfl; omega⟩ h) := by
  blk_ext! [iblk, V, idx t]

/-- The block of the second factor's scales is the whole argument. -/
theorem blk10 (d : Fin 3) (r : Fin 192) : iblk m c 10 t (ix2 d r) = m ((c : Thread nD τ).loc main_arg9) (ix2 d r) := by
  blk_ext [iblk, V, idx t]

/-- The block of the first factor's scales is the whole argument. -/
theorem blk11 (d : Fin 3) (r : Fin 192) : iblk m c 11 t (ix2 d r) = m ((c : Thread nD τ).loc main_arg10) (ix2 d r) := by
  blk_ext [iblk, V, idx t]

/-- The block of the singular values is the whole argument. -/
theorem blk12 (d : Fin 3) (r : Fin 192) : iblk m c 12 t (ix2 d r) = m ((c : Thread nD τ).loc main_arg11) (ix2 d r) := by
  blk_ext [iblk, V, idx t]

/-- The delta that a batch entry uses, read from its block, is the one that the argument names. -/
theorem adap_arg (h : ∀ y, (iblk m c 0 t y).toNat < 3) (b : Fin 6) : adap m c t h b = argAdap (m ((c : Thread nD τ).loc main_arg12)) b := by
  apply Fin.ext
  have e := h (ix1 b)
  show BitVec.toNat (iblk m c 0 t (ix1 b)) = BitVec.toNat (m ((c : Thread nD τ).loc main_arg12) (ix1 b)) % 3
  rw [blk0] at e ⊢
  exact (Nat.mod_eq_of_lt e).symm

/-- An activation of the block is the argument's. -/
theorem xVal_arg (b : Fin 6) (s : Fin 256) (k : Fin 1536) : xVal m c t b s k = argX (m ((c : Thread nD τ).loc main_arg0)) b s k := blk1 m c t b s k

/-- A decoded base weight of the block at step `t` is the arguments' at column `1280 t + n`. -/
theorem wVal_arg (k : Fin 1536) (n : Fin 1280) (n' : Fin 8960) (hn : n'.val = t.val * 1280 + n.val) : wVal m c t k n = argW (m ((c : Thread nD τ).loc main_arg1)) (m ((c : Thread nD τ).loc main_arg2)) k n' := by
  have e : n' = col t n := Fin.ext hn
  subst e
  unfold wVal
  rw [blk2, blk3]
  rfl

/-- A decoded slot of the second factor's block is the arguments'. -/
theorem vSlot_arg (d : Fin 3) (n : Fin 1536) (q : Fin 256) : vSlot m c t d n q = argV (m ((c : Thread nD τ).loc main_arg3)) (m ((c : Thread nD τ).loc main_arg5)) (m ((c : Thread nD τ).loc main_arg7)) d n q := by
  unfold vSlot
  simp only [blk8, blk6, blk4]
  rfl

/-- A decoded slot of the first factor's block at step `t` is the arguments' at row `1280 t + n`. -/
theorem uSlot_arg (d : Fin 3) (n : Fin 1280) (q : Fin 256) (n' : Fin 8960) (hn : n'.val = t.val * 1280 + n.val) : uSlot m c t d n q = argU (m ((c : Thread nD τ).loc main_arg4)) (m ((c : Thread nD τ).loc main_arg6)) (m ((c : Thread nD τ).loc main_arg8)) d n' q := by
  have e : n' = col t n := Fin.ext hn
  subst e
  unfold uSlot
  simp only [blk9, blk7, blk5]
  rfl

/-- The coefficients of the ranks, read from the blocks, are the arguments'. -/
theorem rankVal_arg (d : Fin 3) : rankVal m c t d = argC (m ((c : Thread nD τ).loc main_arg9)) (m ((c : Thread nD τ).loc main_arg10)) (m ((c : Thread nD τ).loc main_arg11)) d := by
  funext r
  unfold rankVal vsVal sgVal usVal
  rw [blk10, blk11, blk12]
  rfl

/-- The shrink products of any point are those of the arguments. -/
theorem tVal_arg (h : ∀ y, (iblk m c 0 t y).toNat < 3) (b : Fin 6) (s q : Fin 256) : tVal m c t h (ix3 b s q) = argT (m ((c : Thread nD τ).loc main_arg0)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) b s q := by
  show (∑ n : Fin 1536, xVal m c t b s n * vSlot m c t (adap m c t h b) n q) * slotCoef (rankVal m c t (adap m c t h b)) q.val = _
  unfold argT
  rw [adap_arg, rankVal_arg]
  congr 1
  refine Finset.sum_congr rfl fun n _ => ?_
  rw [xVal_arg, vSlot_arg]

/-- The output block of a point, in the arguments. -/
theorem outVal_arg (h : ∀ y, (iblk m c 0 t y).toNat < 3) (T : S6x256x256.Idx → EReal)
    (hT : ∀ b s q, T (ix3 b s q) = argT (m ((c : Thread nD τ).loc main_arg0)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) b s q) (b : Fin 6) (s : Fin 256) (n : Fin 1280) (n' : Fin 8960) (hn : n'.val = t.val * 1280 + n.val) :
    outVal m c t h T (ix3 b s n) = kernelVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b s n' := by
  show (∑ k : Fin 1536, xVal m c t b s k * wVal m c t k n) + ∑ q : Fin 256, T (ix3 b s q) * uSlot m c t (adap m c t h b) n q = _
  unfold kernelVal
  rw [adap_arg]
  congr 1
  · refine Finset.sum_congr rfl fun k _ => ?_
    rw [xVal_arg, wVal_arg m c t k n n' hn]
  · refine Finset.sum_congr rfl fun q _ => ?_
    rw [hT, uSlot_arg m c t _ n q n' hn]

end

end Cert.KernelIdeal.Own
-- ==== Proof.KernelValue.lean ====
/- The kernel's result array after the run, in its arguments. -/
module

public import proofs.«01_k».proof.Proof.OutA
public import proofs.«01_k».proof.Proof.OutB
public import proofs.«01_k».proof.Proof.Blocks

@[expose] public section

set_option maxRecDepth 16384
noncomputable section
namespace Cert.KernelIdeal.Own

open Idealize.ShloMosaic Idealize.ShloMosaic.TcCoe Idealize.SL.Sem Cert.KernelIdeal Cert.KernelIdeal.Gen

local notation "F" => Idealize.ShloMosaic.Ideal

variable (m : (ℓ : Loc nD τ sig) → Buf (Elt Ideal) ℓ) (hH : Hyps m) (c : Dev nD)

/-- After every point the scratch holds the shrink products of the arguments. -/
theorem held (hw : ∀ t y, (iblk m c 0 t y).toNat < 3) : ∀ (n : Nat) (hn : n < cfg0.N) (b : Fin 6) (s q : Fin 256),
    (outsAt0 m hH c n hn).2.1 (ix3 b s q) = argT (m ((c : Thread nD τ).loc main_arg0)) (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12)) b s q := by
  intro n
  induction n using Nat.strong_induction_on with
  | _ n ih =>
    intro hn b s q
    by_cases h0 : n % 7 = 0
    · rw [t_A m c ⟨n, hn⟩ hH (hw _) h0, tVal_arg]
    · have hp : n - 1 < n := by omega
      rw [t_B m c ⟨n, hn⟩ hH h0 (by show n - 1 < cfg0.N; omega)]
      exact ih (n - 1) hp _ b s q

/-- Every point leaves its block of the result in the output window. -/
theorem out_at (hw : ∀ t y, (iblk m c 0 t y).toNat < 3) (t : Fin cfg0.N) (b : Fin 6) (s : Fin 256) (n : Fin 1280) (n' : Fin 8960) (hn : n'.val = t.val * 1280 + n.val) :
    (outsAt0 m hH c t.val t.isLt).1 (ix3 b s n) = kernelVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b s n' := by
  by_cases h0 : t.val % 7 = 0
  · rw [out_A m hH c t (hw t) h0]
    exact outVal_arg m c t (hw t) _ (fun b s q => tVal_arg m c t (hw t) b s q) b s n n' hn
  · have hp : t.val - 1 < cfg0.N := by have := t.isLt; omega
    rw [out_B m hH c t (hw t) h0 (fun y => (outsAt0 m hH c (t.val - 1) hp).2.1 y) (fun _ _ => rfl)]
    exact outVal_arg m c t (hw t) _ (fun b s q => held m hH c hw _ hp b s q) b s n n' hn

/-- The result array after the run. -/
theorem arr (hw : ∀ t y, (iblk m c 0 t y).toNat < 3) : (dats m hH 0 c).arrAt 13 cfg0.N = fun y => kernelVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (y 0) (y 1) (y 2) := by
  refine (dats m hH 0 c).arrAt_eq_of_covers 13 _ (by decide +kernel) fun t hf y => ?_
  blk_simp
  rw [after0_13]
  have y0 : ((win0_13.blk t).view.emb y 0).val = (y 0).val := by blk_simp [idx t]
  have y1 : ((win0_13.blk t).view.emb y 1).val = (y 1).val := by blk_simp [idx t]
  have y2 : ((win0_13.blk t).view.emb y 2).val = t.val * 1280 + (y 2).val := by blk_simp [idx t]
  have e0 : (win0_13.blk t).view.emb y 0 = y 0 := Fin.ext y0
  have e1 : (win0_13.blk t).view.emb y 1 = y 1 := Fin.ext y1
  rw [e0, e1]
  exact (congrArg _ (ix3_eta y).symm).trans (out_at m hH c hw t (y 0) (y 1) (y 2) _ y2)

end Cert.KernelIdeal.Own
-- ==== Proof.Gather.lean ====
/- Picking the slabs of an array by a column of slab numbers, at an index. -/
module

public import Idealize.ShloMosaic.Lib.Routing.Ops
public import Idealize.ShloMosaic.Lib.Pipeline.ValueKit

@[expose] public section

set_option maxRecDepth 16384
noncomputable section
namespace Cert.Own

open Idealize.ShloMosaic Idealize.ShloMosaic.TcCoe Idealize.SL.Sem

/-- The dimension numbers of picking slabs, one number per row of `[B, 1]`. -/
abbrev slabDims (N M W B : Nat) (wf : GatherDims.WF ⟨3, ![N, M, W]⟩ ⟨2, ![B, 1]⟩ ⟨3, ![B, M, W]⟩ [1, 2] [0] [] [0] [] 1 ![1, M, W]) :
    GatherDims ⟨3, ![N, M, W]⟩ ⟨2, ![B, 1]⟩ ⟨3, ![B, M, W]⟩ where
  offsetDims := [1, 2]
  collapsedSliceDims := [0]
  operandBatchingDims := []
  startIndicesBatchingDims := []
  startIndexMap := [0]
  indexVectorDim := 1
  sliceSizes := ![1, M, W]
  wf := wf

/-- `table[idx]` over the slabs of an `[N, M, W]` array: where `idx` holds at `(b, 0)` a slab number `e < N`, entry `(b, y, z)` of the result
    is the array's entry `(e, y, z)`. -/
theorem gather_slab {α : Type} {N M W B : Nat} (wf : GatherDims.WF ⟨3, ![N, M, W]⟩ ⟨2, ![B, 1]⟩ ⟨3, ![B, M, W]⟩ [1, 2] [0] [] [0] [] 1 ![1, M, W])
    (x : (⟨3, ![N, M, W]⟩ : Shape).Idx → α) (idx : IVec ⟨2, ![B, 1]⟩ 32) (b : Fin B) (y : Fin M) (z : Fin W) (e : Fin N)
    (hb : idx (ix2 b (0 : Fin 1)) = BitVec.ofNat 32 e.val) (hN : N < 2 ^ 31) :
    Host.gather (slabDims N M W B wf) x idx (ix3 b y z) = x (ix3 e y z) := by
  unfold Host.gather
  refine congrArg x (funext fun a => Fin.ext ?_)
  generalize hd : slabDims N M W B wf = d
  have hbN : ∀ a', a' ∉ d.operandBatchingDims := fun a' => by subst hd; exact List.not_mem_nil
  match a with
  | ⟨0, _⟩ =>
    show d.start (ix3 b y z) idx 0 + d.batchCoord (ix3 b y z) 0 + d.offCoord (ix3 b y z) 0 = e.val
    have hk : (0 : Fin 3) ∉ d.sKept := fun h => ((d.mem_sKept 0).1 h).1 (by subst hd; exact List.mem_singleton.2 rfl)
    rw [d.batchCoord_eq_zero _ _ (hbN 0), d.offCoord_eq_zero _ _ hk]
    subst hd
    simp only [Nat.add_zero]
    unfold GatherDims.start
    rw [dif_pos (List.mem_singleton.2 rfl)]
    have hsi : ∀ p, (slabDims N M W B wf).siIdx (ix3 b y z) ⟨0, p⟩ = ix2 b (0 : Fin 1) := by
      intro p
      funext b'
      match b' with
      | ⟨0, _⟩ => rfl
      | ⟨1, _⟩ => rfl
    have he := e.isLt
    refine (congrArg (fun v => min (BitVec.toInt v).toNat (N - 1)) ((congrArg idx (hsi _)).trans hb)).trans ?_
    beta_reduce
    rw [StableHlo.Predicate.toInt_ofNat_small _ (by omega)]
    show min ((e.val : Int)).toNat (N - 1) = e.val
    omega
  | ⟨1, _⟩ =>
    show d.start (ix3 b y z) idx 1 + d.batchCoord (ix3 b y z) 1 + d.offCoord (ix3 b y z) 1 = y.val
    rw [d.batchCoord_eq_zero _ _ (hbN 1), Nat.add_zero]
    subst hd
    exact Nat.zero_add _
  | ⟨2, _⟩ =>
    show d.start (ix3 b y z) idx 2 + d.batchCoord (ix3 b y z) 2 + d.offCoord (ix3 b y z) 2 = z.val
    rw [d.batchCoord_eq_zero _ _ (hbN 2), Nat.add_zero]
    subst hd
    exact Nat.zero_add _

end Cert.Own

end
-- ==== Proof.Fields.lean ====
/- The packed fields as whole numbers: what the kernel's masked words hold is the sign-corrected field. -/
module

public import proofs.«01_k».proof.Proof.Decode

@[expose] public section

set_option maxRecDepth 16384
noncomputable section
namespace Cert.KernelIdeal.Own

open Idealize.ShloMosaic Idealize.ShloMosaic.TcCoe Idealize.SL.Sem Cert.KernelIdeal Cert.KernelIdeal.Gen

/-- A field less `full` where it is at least `half`. -/
def signed (full half c : BitVec 32) : BitVec 32 :=
  IntOp.subi c (IntOp.muli full ((IntOp.cmpi .sge c half).setWidth 32))

/-- The number of a field of a word. -/
def fieldVal (full half c : BitVec 32) : EReal := (((signed full half c).toInt : ℝ) : EReal)

/-- A field xored into a bfloat16's low bits, less that bfloat16, is the field's number: two bits. -/
theorem code2 (c : BitVec 32) (h : c.toNat < 4) :
    Ideal.ofBits .bf16 (c.setWidth 16 ^^^ 0x4302#16) - Ideal.ofBits .bf16 0x4302#16 = fieldVal 4#32 2#32 c := by
  obtain ⟨k, hk, rfl⟩ : ∃ k, k < 4 ∧ c = BitVec.ofNat 32 k := ⟨c.toNat, h, by simp⟩
  interval_cases k <;>
    simp [fieldVal, signed, IntOp.subi, IntOp.muli, IntOp.cmpi, Ideal.ofBits, Ideal.ieee, -EReal.coe_mul, ← EReal.coe_sub] <;> norm_num

/-- The same of three bits. -/
theorem code3 (c : BitVec 32) (h : c.toNat < 8) :
    Ideal.ofBits .bf16 (c.setWidth 16 ^^^ 0x4304#16) - Ideal.ofBits .bf16 0x4304#16 = fieldVal 8#32 4#32 c := by
  obtain ⟨k, hk, rfl⟩ : ∃ k, k < 8 ∧ c = BitVec.ofNat 32 k := ⟨c.toNat, h, by simp⟩
  interval_cases k <;>
    simp [fieldVal, signed, IntOp.subi, IntOp.muli, IntOp.cmpi, Ideal.ofBits, Ideal.ieee, -EReal.coe_mul, ← EReal.coe_sub] <;> norm_num

/-- The same of four bits. -/
theorem code4 (c : BitVec 32) (h : c.toNat < 16) :
    Ideal.ofBits .bf16 (c.setWidth 16 ^^^ 0x4308#16) - Ideal.ofBits .bf16 0x4308#16 = fieldVal 16#32 8#32 c := by
  obtain ⟨k, hk, rfl⟩ : ∃ k, k < 16 ∧ c = BitVec.ofNat 32 k := ⟨c.toNat, h, by simp⟩
  interval_cases k <;>
    simp [fieldVal, signed, IntOp.subi, IntOp.muli, IntOp.cmpi, Ideal.ofBits, Ideal.ieee, -EReal.coe_mul, ← EReal.coe_sub] <;> norm_num

/-- The low half of a masked word pair: two-bit fields. -/
theorem half2_lo (p : BitVec 32) : BitVec.extractLsb' 0 16 (((p &&& 3#32) ||| ((p <<< 14) &&& 196608#32)) ^^^ 1124221698#32)
    = (p &&& 3#32).setWidth 16 ^^^ 0x4302#16 := by
  apply BitVec.eq_of_getLsbD_eq
  intro i hi
  interval_cases i <;> simp [BitVec.getLsbD_ofNat]

/-- The high half: the field two bits up. -/
theorem half2_hi (p : BitVec 32) : BitVec.extractLsb' 16 16 (((p &&& 3#32) ||| ((p <<< 14) &&& 196608#32)) ^^^ 1124221698#32)
    = (p.sshiftRight 2 &&& 3#32).setWidth 16 ^^^ 0x4302#16 := by
  apply BitVec.eq_of_getLsbD_eq
  intro i hi
  interval_cases i <;> simp [BitVec.getLsbD_ofNat, BitVec.getElem_sshiftRight]

/-- The same of three-bit fields. -/
theorem half3_lo (p : BitVec 32) : BitVec.extractLsb' 0 16 (((p &&& 7#32) ||| ((p <<< 13) &&& 458752#32)) ^^^ 1124352772#32)
    = (p &&& 7#32).setWidth 16 ^^^ 0x4304#16 := by
  apply BitVec.eq_of_getLsbD_eq
  intro i hi
  interval_cases i <;> simp [BitVec.getLsbD_ofNat]

/-- The high half: the field three bits up. -/
theorem half3_hi (p : BitVec 32) : BitVec.extractLsb' 16 16 (((p &&& 7#32) ||| ((p <<< 13) &&& 458752#32)) ^^^ 1124352772#32)
    = (p.sshiftRight 3 &&& 7#32).setWidth 16 ^^^ 0x4304#16 := by
  apply BitVec.eq_of_getLsbD_eq
  intro i hi
  interval_cases i <;> simp [BitVec.getLsbD_ofNat, BitVec.getElem_sshiftRight]

/-- The low half of a masked byte pair: the low nibble. -/
theorem nib_lo (b : BitVec 8) : BitVec.extractLsb' 0 16 (((b.setWidth 32 ||| (b.setWidth 32 <<< 12)) &&& 983055#32) ^^^ 1124614920#32)
    = (b.setWidth 32 &&& 15#32).setWidth 16 ^^^ 0x4308#16 := by
  apply BitVec.eq_of_getLsbD_eq
  intro i hi
  interval_cases i <;> simp [BitVec.getLsbD_ofNat]

/-- The high half: the high nibble. -/
theorem nib_hi (b : BitVec 8) : BitVec.extractLsb' 16 16 (((b.setWidth 32 ||| (b.setWidth 32 <<< 12)) &&& 983055#32) ^^^ 1124614920#32)
    = ((b.setWidth 32).sshiftRight 4 &&& 15#32).setWidth 16 ^^^ 0x4308#16 := by
  apply BitVec.eq_of_getLsbD_eq
  intro i hi
  interval_cases i <;> simp [BitVec.getLsbD_ofNat, BitVec.getElem_sshiftRight]

/-- A masked word is at most the mask. -/
theorem and_lt (p m : BitVec 32) {k : Nat} (h : m.toNat < k) : (p &&& m).toNat < k := by
  rw [BitVec.toNat_and]; exact lt_of_le_of_lt Nat.and_le_right h

/-- An in-range shift of a word. -/
theorem shift_le (w : BitVec 32) (k : Nat) (hk : k ≤ 31) : IntOp.shrsi ArithUnit.vector w (BitVec.ofNat 32 k) = w.sshiftRight k := by
  unfold IntOp.shrsi
  have e : (BitVec.ofNat 32 k).toNat = k := by simp; omega
  rw [if_pos (by omega), BitVec.sshiftRight', e]

/-- A row of the two-bit rows is the number of that two-bit field. -/
theorem field2_eq (w : BitVec 32) (q : Nat) (hq : q < 16) : field2 w q = fieldVal 4#32 2#32 (w.sshiftRight (2 * q) &&& 3#32) := by
  rw [← code2 _ (and_lt _ _ (by decide))]
  unfold field2 halfW
  congr 2
  have e : IntOp.minsi (IntOp.muli (BitVec.ofNat 32 (q / 2)) 4#32) 31#32 = BitVec.ofNat 32 (4 * (q / 2)) := by
    interval_cases q <;> rfl
  dsimp only
  rw [e, shift_le _ _ (by omega)]
  rcases Nat.mod_two_eq_zero_or_one q with h | h <;> rw [h]
  · have e2 : 4 * (q / 2) = 2 * q := by omega
    rw [e2]; exact half2_lo _
  · have e2 : 2 * q = 4 * (q / 2) + 2 := by omega
    rw [e2, BitVec.sshiftRight_add]; exact half2_hi _

/-- A row of the three-bit rows, below ten, is the number of that three-bit field. -/
theorem field3_eq (w : BitVec 32) (q : Nat) (hq : q < 10) : field3 w q = fieldVal 8#32 4#32 (w.sshiftRight (3 * q) &&& 7#32) := by
  rw [← code3 _ (and_lt _ _ (by decide))]
  unfold field3 halfW
  congr 2
  have e : IntOp.minsi (IntOp.muli (BitVec.ofNat 32 (q / 2)) 6#32) 31#32 = BitVec.ofNat 32 (6 * (q / 2)) := by
    interval_cases q <;> rfl
  dsimp only
  rw [e, shift_le _ _ (by omega)]
  rcases Nat.mod_two_eq_zero_or_one q with h | h <;> rw [h]
  · have e2 : 6 * (q / 2) = 3 * q := by omega
    rw [e2]; exact half3_lo _
  · have e2 : 3 * q = 6 * (q / 2) + 3 := by omega
    rw [e2, BitVec.sshiftRight_add]; exact half3_hi _

/-- An even row of a byte is the number of its low nibble. -/
theorem nib0_eq (b : BitVec 8) : nibVal b 0 = fieldVal 16#32 8#32 (b.setWidth 32 &&& 15#32) := by
  rw [← code4 _ (and_lt _ _ (by decide))]
  unfold nibVal
  congr 2
  exact nib_lo b

/-- An odd row of a byte is the number of its high nibble. -/
theorem nib1_eq (b : BitVec 8) : nibVal b 1 = fieldVal 16#32 8#32 ((b.setWidth 32).sshiftRight 4 &&& 15#32) := by
  rw [← code4 _ (and_lt _ _ (by decide))]
  unfold nibVal
  congr 2
  exact nib_hi b

end Cert.KernelIdeal.Own

end
-- ==== Proof.RefValue.lean ====
/- What the reference computes at an index. -/
module

public import proofs.«01_k».proof.Proof.Gen.ReferenceIdeal.Run
public import proofs.«01_k».proof.Proof.Gather
public import proofs.«01_k».proof.Proof.Fields
public import proofs.«01_k».proof.Proof.Blocks

@[expose] public section

set_option maxRecDepth 16384
noncomputable section
namespace Cert.ReferenceIdeal.Own

open Idealize.ShloMosaic Idealize.ShloMosaic.TcCoe Idealize.SL.Sem Cert.ReferenceIdeal Cert.ReferenceIdeal.Gen Cert.ReferenceIdeal.Value
open Cert.KernelIdeal.Own (argX argW argS argC argVs argUs argSg argAdap byteVal field2 field3 nibVal fieldVal)

local notation "F" => Idealize.ShloMosaic.Ideal

section Args

variable (a0 : Vec F S6x256x1536 .bf16) (a1 : Vec F S768x8960 .i8) (a2 : Vec F S12x8960 .bf16) (a3 : Vec F S3x1536x2 .i8) (a4 : Vec F S3x8960x2 .i8)
  (a5 : Vec F S3x1536x4 .i32) (a6 : Vec F S3x8960x4 .i32) (a7 : Vec F S3x1536x10 .i32) (a8 : Vec F S3x8960x10 .i32)
  (a9 : Vec F S3x192 .bf16) (a10 : Vec F S3x192 .bf16) (a11 : Vec F S3x192 .f32) (a12 : Vec F S6 .i32)

/-- The base layer: the even rows' product and the odd rows'. -/
def refBase (b : Fin 6) (s : Fin 256) (n : Fin 8960) : EReal :=
  (∑ k : Fin 768, argX a0 b s ⟨2 * k.val, by omega⟩ * argW a1 a2 ⟨2 * k.val, by omega⟩ n)
    + ∑ k : Fin 768, argX a0 b s ⟨1 + 2 * k.val, by omega⟩ * argW a1 a2 ⟨1 + 2 * k.val, by omega⟩ n

/-- The two ranks kept in bytes, for adapter `d`. -/
def refBytes (d : Fin 3) (b : Fin 6) (s : Fin 256) (n : Fin 8960) : EReal :=
  ∑ r : Fin 2, (∑ k : Fin 1536, argX a0 b s k * byteVal (a3 (ix3 d k r))) * argC a9 a10 a11 d ⟨r.val, by omega⟩ * byteVal (a4 (ix3 d n r))

/-- The coefficient of three-bit rank `i`, zero past the last. -/
def coef3 (d : Fin 3) (i : Nat) : EReal := if h : i < 32 then argC a9 a10 a11 d ⟨2 + i, by omega⟩ else 0

/-- The coefficient of two-bit rank `i`, zero past the last. -/
def coef2 (d : Fin 3) (i : Nat) : EReal := if h : i < 158 then argC a9 a10 a11 d ⟨34 + i, by omega⟩ else 0

/-- The ranks kept in three bits. -/
def refThrees (d : Fin 3) (b : Fin 6) (s : Fin 256) (n : Fin 8960) : EReal :=
  ∑ f : Fin 10, ∑ w : Fin 4, (∑ k : Fin 1536, argX a0 b s k * field3 (a5 (ix3 d k w)) f.val) * coef3 a9 a10 a11 d (w.val * 10 + f.val)
    * field3 (a6 (ix3 d n w)) f.val

/-- The ranks kept in two bits. -/
def refTwos (d : Fin 3) (b : Fin 6) (s : Fin 256) (n : Fin 8960) : EReal :=
  ∑ f : Fin 16, ∑ w : Fin 10, (∑ k : Fin 1536, argX a0 b s k * field2 (a7 (ix3 d k w)) f.val) * coef2 a9 a10 a11 d (w.val * 16 + f.val)
    * field2 (a8 (ix3 d n w)) f.val

/-- A base weight of an even row. -/
theorem argW_even (k : Fin 768) (n : Fin 8960) :
    argW a1 a2 ⟨2 * k.val, by omega⟩ n = fieldVal 16#32 8#32 (BitVec.setWidth 32 (a1 (ix2 k n) : BitVec 8) &&& 15#32) * argS a2 ⟨k.val / 64, by omega⟩ n := by
  unfold argW
  rw [← Cert.KernelIdeal.Own.nib0_eq]
  congr 2
  · congr 2
    exact Fin.ext (by show 2 * k.val / 2 = k.val; omega)
  · show 2 * k.val % 2 = 0; omega
  · exact Fin.ext (by show 2 * k.val / 128 = k.val / 64; omega)

/-- A base weight of an odd row. -/
theorem argW_odd (k : Fin 768) (n : Fin 8960) :
    argW a1 a2 ⟨1 + 2 * k.val, by omega⟩ n
      = fieldVal 16#32 8#32 ((BitVec.setWidth 32 (a1 (ix2 k n) : BitVec 8)).sshiftRight 4 &&& 15#32) * argS a2 ⟨k.val / 64, by omega⟩ n := by
  unfold argW
  rw [← Cert.KernelIdeal.Own.nib1_eq]
  congr 2
  · congr 2
    exact Fin.ext (by show (1 + 2 * k.val) / 2 = k.val; omega)
  · show (1 + 2 * k.val) % 2 = 1; omega
  · exact Fin.ext (by show (1 + 2 * k.val) / 128 = k.val / 64; omega)

end Args

/-- The host's in-range shift of a word. -/
theorem shift_host (w : BitVec 32) (c : BitVec 32) (k : Nat) (e : c.toNat = k) (hk : k < 32) : IntOp.shrsi ArithUnit.host w c = w.sshiftRight k := by
  unfold IntOp.shrsi
  rw [if_pos (by omega), BitVec.sshiftRight', e]

variable (V0 : Valuation τ sig (Elt Ideal))

/-- The slab numbers that the reference gathers by: the adapters, a negative one wrapped. -/
abbrev slabs : IVec S6x1 32 :=
  broadcastInDim S6x1 ![0] bcast_S6_S6x1_0 (select (cmpi CmpIPredicate.slt (V0 (Proc.devRef .tc main_arg12)) (broadcastInDim S6 ![] bcast_S_S6 (constantI S_ 32 0#32)))
    (addi (V0 (Proc.devRef .tc main_arg12)) (broadcastInDim S6 ![] bcast_S_S6 (constantI S_ 32 3#32))) (V0 (Proc.devRef .tc main_arg12)))

variable (h : ∀ b : Fin 6, BitVec.toNat (V0 (Proc.devRef .tc main_arg12) (ix1 b)) < 3)

include h

/-- A batch entry's slab number is its adapter. -/
theorem slabs_at (b : Fin 6) : slabs V0 (ix2 b (0 : Fin 1)) = BitVec.ofNat 32 (argAdap (V0 (Proc.devRef .tc main_arg12)) b).val := by
  have hb := h b
  unfold slabs argAdap
  pointwise
  generalize (V0 (Proc.devRef .tc main_arg12)) (ix1 b) = w at hb ⊢
  change BitVec.toNat w < 3 at hb
  change _ = BitVec.ofNat 32 (BitVec.toNat w % 3)
  obtain ⟨k, hk, rfl⟩ : ∃ k, k < 3 ∧ w = BitVec.ofNat 32 k := ⟨BitVec.toNat w, hb, by simp⟩
  interval_cases k <;> rfl

/-- Argument 3's slab of a batch entry. -/
theorem gather3 (b : Fin 6) (k : Fin 1536) (w : Fin 2) :
    Host.gather gather_S3x1536x2_S6x1_S6x1536x2_12_0_n_n_0_1_115362 (V0 (Proc.devRef .tc main_arg3)) (slabs V0) (ix3 b k w)
      = V0 (Proc.devRef .tc main_arg3) (ix3 (argAdap (V0 (Proc.devRef .tc main_arg12)) b) k w) :=
  Cert.Own.gather_slab _ _ _ b k w _ (slabs_at V0 h b) (by decide)

/-- Argument 4's slab of a batch entry. -/
theorem gather4 (b : Fin 6) (k : Fin 8960) (w : Fin 2) :
    Host.gather gather_S3x8960x2_S6x1_S6x8960x2_12_0_n_n_0_1_189602 (V0 (Proc.devRef .tc main_arg4)) (slabs V0) (ix3 b k w)
      = V0 (Proc.devRef .tc main_arg4) (ix3 (argAdap (V0 (Proc.devRef .tc main_arg12)) b) k w) :=
  Cert.Own.gather_slab _ _ _ b k w _ (slabs_at V0 h b) (by decide)

/-- Argument 5's slab of a batch entry. -/
theorem gather5 (b : Fin 6) (k : Fin 1536) (w : Fin 4) :
    Host.gather gather_S3x1536x4_S6x1_S6x1536x4_12_0_n_n_0_1_115364 (V0 (Proc.devRef .tc main_arg5)) (slabs V0) (ix3 b k w)
      = V0 (Proc.devRef .tc main_arg5) (ix3 (argAdap (V0 (Proc.devRef .tc main_arg12)) b) k w) :=
  Cert.Own.gather_slab _ _ _ b k w _ (slabs_at V0 h b) (by decide)

/-- Argument 6's slab of a batch entry. -/
theorem gather6 (b : Fin 6) (k : Fin 8960) (w : Fin 4) :
    Host.gather gather_S3x8960x4_S6x1_S6x8960x4_12_0_n_n_0_1_189604 (V0 (Proc.devRef .tc main_arg6)) (slabs V0) (ix3 b k w)
      = V0 (Proc.devRef .tc main_arg6) (ix3 (argAdap (V0 (Proc.devRef .tc main_arg12)) b) k w) :=
  Cert.Own.gather_slab _ _ _ b k w _ (slabs_at V0 h b) (by decide)

/-- Argument 7's slab of a batch entry. -/
theorem gather7 (b : Fin 6) (k : Fin 1536) (w : Fin 10) :
    Host.gather gather_S3x1536x10_S6x1_S6x1536x10_12_0_n_n_0_1_1153610 (V0 (Proc.devRef .tc main_arg7)) (slabs V0) (ix3 b k w)
      = V0 (Proc.devRef .tc main_arg7) (ix3 (argAdap (V0 (Proc.devRef .tc main_arg12)) b) k w) :=
  Cert.Own.gather_slab _ _ _ b k w _ (slabs_at V0 h b) (by decide)

/-- Argument 8's slab of a batch entry. -/
theorem gather8 (b : Fin 6) (k : Fin 8960) (w : Fin 10) :
    Host.gather gather_S3x8960x10_S6x1_S6x8960x10_12_0_n_n_0_1_1896010 (V0 (Proc.devRef .tc main_arg8)) (slabs V0) (ix3 b k w)
      = V0 (Proc.devRef .tc main_arg8) (ix3 (argAdap (V0 (Proc.devRef .tc main_arg12)) b) k w) :=
  Cert.Own.gather_slab _ _ _ b k w _ (slabs_at V0 h b) (by decide)

/-- A table's row of a batch entry. -/
theorem gatherRow {α : Type} (x : S3x192.Idx → α) (b : Fin 6) (r : Fin 192) :
    Host.gather gather_S3x192_S6x1_S6x192_1_0_n_n_0_1_1192 x (slabs V0) (ix2 b r) = x (ix2 (argAdap (V0 (Proc.devRef .tc main_arg12)) b) r) :=
  Routing.gather_row _ rfl rfl rfl rfl rfl _ _ b r _ (slabs_at V0 h b) (by decide)

/-- The coefficient of a rank. -/
theorem coef_at (b : Fin 6) (r : Fin 192) :
    res_main_v143 V0 (ix2 b r) = argC (V0 (Proc.devRef .tc main_arg9)) (V0 (Proc.devRef .tc main_arg10)) (V0 (Proc.devRef .tc main_arg11)) (argAdap (V0 (Proc.devRef .tc main_arg12)) b) r := by
  unfold res_main_v143
  pointwise
  rw [gatherRow V0 h, gatherRow V0 h, gatherRow V0 h]
  rfl

/-- A field of argument 5. -/
theorem field_at5 (b : Fin 6) (k : Fin 1536) (w : Fin 4) (f : Fin 10) :
    res_main_v111 V0 (ix4 b k w f) = ((V0 (Proc.devRef .tc main_arg5) (ix3 (argAdap (V0 (Proc.devRef .tc main_arg12)) b) k w) : BitVec 32).sshiftRight (3 * f.val)) &&& 7#32 := by
  unfold res_main_v111
  pointwise
  rw [gather5 V0 h]
  refine congrArg (fun v => v &&& 7#32) (shift_host _ _ _ ?_ (by omega))
  show (3#32 * BitVec.ofNat 32 f.val).toNat = _
  rw [BitVec.toNat_mul, BitVec.toNat_ofNat, BitVec.toNat_ofNat]
  omega

/-- A field of argument 6. -/
theorem field_at6 (b : Fin 6) (k : Fin 8960) (w : Fin 4) (f : Fin 10) :
    res_main_v175 V0 (ix4 b k w f) = ((V0 (Proc.devRef .tc main_arg6) (ix3 (argAdap (V0 (Proc.devRef .tc main_arg12)) b) k w) : BitVec 32).sshiftRight (3 * f.val)) &&& 7#32 := by
  unfold res_main_v175
  pointwise
  rw [gather6 V0 h]
  refine congrArg (fun v => v &&& 7#32) (shift_host _ _ _ ?_ (by omega))
  show (3#32 * BitVec.ofNat 32 f.val).toNat = _
  rw [BitVec.toNat_mul, BitVec.toNat_ofNat, BitVec.toNat_ofNat]
  omega

/-- A field of argument 7. -/
theorem field_at7 (b : Fin 6) (k : Fin 1536) (w : Fin 10) (f : Fin 16) :
    res_main_v130 V0 (ix4 b k w f) = ((V0 (Proc.devRef .tc main_arg7) (ix3 (argAdap (V0 (Proc.devRef .tc main_arg12)) b) k w) : BitVec 32).sshiftRight (2 * f.val)) &&& 3#32 := by
  unfold res_main_v130
  pointwise
  rw [gather7 V0 h]
  refine congrArg (fun v => v &&& 3#32) (shift_host _ _ _ ?_ (by omega))
  show (2#32 * BitVec.ofNat 32 f.val).toNat = _
  rw [BitVec.toNat_mul, BitVec.toNat_ofNat, BitVec.toNat_ofNat]
  omega

/-- A field of argument 8. -/
theorem field_at8 (b : Fin 6) (k : Fin 8960) (w : Fin 10) (f : Fin 16) :
    res_main_v194 V0 (ix4 b k w f) = ((V0 (Proc.devRef .tc main_arg8) (ix3 (argAdap (V0 (Proc.devRef .tc main_arg12)) b) k w) : BitVec 32).sshiftRight (2 * f.val)) &&& 3#32 := by
  unfold res_main_v194
  pointwise
  rw [gather8 V0 h]
  refine congrArg (fun v => v &&& 3#32) (shift_host _ _ _ ?_ (by omega))
  show (2#32 * BitVec.ofNat 32 f.val).toNat = _
  rw [BitVec.toNat_mul, BitVec.toNat_ofNat, BitVec.toNat_ofNat]
  omega

omit h

/-- A low nibble. -/
theorem low_at (k : Fin 768) (n : Fin 8960) : res_main_v2 V0 (ix2 k n) = BitVec.setWidth 32 (V0 (Proc.devRef .tc main_arg1) (ix2 k n) : BitVec 8) &&& 15#32 := by
  unfold res_main_v2 res_main_v0
  pointwise
  rfl

/-- A high nibble. -/
theorem high_at (k : Fin 768) (n : Fin 8960) :
    res_main_v6 V0 (ix2 k n) = (BitVec.setWidth 32 (V0 (Proc.devRef .tc main_arg1) (ix2 k n) : BitVec 8)).sshiftRight 4 &&& 15#32 := by
  unfold res_main_v6 res_main_v0
  pointwise
  exact congrArg (fun v => v &&& 15#32) (shift_host _ _ _ rfl (by decide))

/-- A scale of the base weights. -/
theorem scale_at (g : Fin 12) (n : Fin 8960) : res_main_v21 V0 (ix3 g 0 n) = argS (V0 (Proc.devRef .tc main_arg2)) g n := by
  unfold res_main_v21
  pointwise
  rfl

/-- A converted sign-corrected field, in the spelling that reading the reference leaves. -/
theorem signed_at {s : Shape} (full half : BitVec 32) (hf hh : S_.BroadcastsInDim s (![] : Fin 0 → Fin s.rank)) (X : IVec s 32) (y : s.Idx) :
    (FloatOps.sitofp .bf16 (IntOp.subi (X y) (id (muli (broadcastInDim s ![] hf (constantI S_ 32 full))
      (extui 32 (cmpi .sge X (broadcastInDim s ![] hh (constantI S_ 32 half))) natLt_1_32)) y)) : Ideal .bf16) = fieldVal full half (X y) := rfl

/-- The number of a sign-extended byte. -/
theorem byte_at (b : BitVec 8) : (FloatOps.sitofp .bf16 (b.signExtend 32) : Ideal .bf16) = byteVal b :=
  Cert.KernelIdeal.Own.sitofp_byte b

/-- The padding. -/
theorem pad_zero : (FloatOps.sitofp .f32 0#32 : Ideal .f32) = (0 : EReal) := by
  show (((0#32 : BitVec 32).toInt : ℝ) : EReal) = 0
  simp

include h

/-- The reference's sum at an index. -/
theorem ref_at (b : Fin 6) (s : Fin 256) (n : Fin 8960) :
    res_main_v207 V0 (ix3 b s n) = refBase (V0 (Proc.devRef .tc main_arg0)) (V0 (Proc.devRef .tc main_arg1)) (V0 (Proc.devRef .tc main_arg2)) b s n
      + refBytes (V0 (Proc.devRef .tc main_arg0)) (V0 (Proc.devRef .tc main_arg3)) (V0 (Proc.devRef .tc main_arg4)) (V0 (Proc.devRef .tc main_arg9)) (V0 (Proc.devRef .tc main_arg10)) (V0 (Proc.devRef .tc main_arg11)) (argAdap (V0 (Proc.devRef .tc main_arg12)) b) b s n
      + refThrees (V0 (Proc.devRef .tc main_arg0)) (V0 (Proc.devRef .tc main_arg5)) (V0 (Proc.devRef .tc main_arg6)) (V0 (Proc.devRef .tc main_arg9)) (V0 (Proc.devRef .tc main_arg10)) (V0 (Proc.devRef .tc main_arg11)) (argAdap (V0 (Proc.devRef .tc main_arg12)) b) b s n
      + refTwos (V0 (Proc.devRef .tc main_arg0)) (V0 (Proc.devRef .tc main_arg7)) (V0 (Proc.devRef .tc main_arg8)) (V0 (Proc.devRef .tc main_arg9)) (V0 (Proc.devRef .tc main_arg10)) (V0 (Proc.devRef .tc main_arg11)) (argAdap (V0 (Proc.devRef .tc main_arg12)) b) b s n := by
  unfold res_main_v207
  pointwise
  refine congrArg₂ (fun x y : EReal => x + y) (congrArg₂ (fun x y : EReal => x + y) (congrArg₂ (fun x y : EReal => x + y)
    (congrArg₂ (fun x y : EReal => x + y) ?_ ?_) ?_) ?_) ?_
  · refine Finset.sum_congr rfl fun k _ => congrArg (fun x : EReal => _ * x) ?_
    rw [argW_even, signed_at 16#32 8#32, low_at, scale_at]
  · refine Finset.sum_congr rfl fun k _ => congrArg (fun x : EReal => _ * x) ?_
    rw [argW_odd, signed_at 16#32 8#32, high_at, scale_at]
  · refine Finset.sum_congr rfl fun r _ => ?_
    rw [gather4 V0 h, byte_at, coef_at V0 h]
    refine congrArg (fun x : EReal => x * _ * _) (Finset.sum_congr rfl fun k _ => ?_)
    rw [gather3 V0 h, byte_at]
    rfl
  · refine Finset.sum_congr rfl fun f _ => Finset.sum_congr rfl fun w _ => ?_
    rw [signed_at 8#32 4#32, field_at6 V0 h, ← Cert.KernelIdeal.Own.field3_eq _ _ f.isLt]
    refine congrArg (fun x : EReal => x * _) (congrArg₂ (fun x y : EReal => x * y) (Finset.sum_congr rfl fun k _ => ?_) ?_)
    · rw [signed_at 8#32 4#32, field_at5 V0 h, ← Cert.KernelIdeal.Own.field3_eq _ _ f.isLt]
      rfl
    · unfold coef3
      split
      · rw [coef_at V0 h]
      · exact pad_zero
  · refine Finset.sum_congr rfl fun f _ => Finset.sum_congr rfl fun w _ => ?_
    rw [signed_at 4#32 2#32, field_at8 V0 h, ← Cert.KernelIdeal.Own.field2_eq _ _ f.isLt]
    refine congrArg (fun x : EReal => x * _) (congrArg₂ (fun x y : EReal => x * y) (Finset.sum_congr rfl fun k _ => ?_) ?_)
    · rw [signed_at 4#32 2#32, field_at7 V0 h, ← Cert.KernelIdeal.Own.field2_eq _ _ f.isLt]
      rfl
    · unfold coef2
      split
      · rw [coef_at V0 h]
      · exact pad_zero

end Cert.ReferenceIdeal.Own

end
-- ==== Proof.Equation.lean ====
/- The kernel's value at an index is the reference's. -/
module

public import proofs.«01_k».proof.Proof.RefValue

@[expose] public section

set_option maxRecDepth 16384
noncomputable section
namespace Cert.ReferenceIdeal.Own

open Idealize.ShloMosaic Idealize.ShloMosaic.TcCoe Idealize.SL.Sem Cert.ReferenceIdeal Cert.ReferenceIdeal.Gen
open Cert.KernelIdeal.Own (argX argW argS argC argVs argUs argSg argAdap byteVal field2 field3 nibVal fieldVal argT argU argV slotVal slotCoef slotRank kernelVal)

local notation "F" => Idealize.ShloMosaic.Ideal

/-- A sum over an even number of terms, the even ones and the odd ones. -/
theorem sum_even_odd (g : Nat → EReal) : ∑ k : Fin 1536, g k.val = (∑ k : Fin 768, g (2 * k.val)) + ∑ k : Fin 768, g (1 + 2 * k.val) := by
  rw [Fin.sum_univ_eq_sum_range (fun k => g k), Fin.sum_univ_eq_sum_range (fun k => g (2 * k)), Fin.sum_univ_eq_sum_range (fun k => g (1 + 2 * k)),
    show 1536 = 768 * 2 from rfl, Finset.sum_range_mul_split, ← Finset.sum_add_distrib]
  refine Finset.sum_congr rfl fun k _ => ?_
  rw [Finset.sum_range_succ, Finset.sum_range_one, Nat.mul_comm, Nat.add_zero, Nat.add_comm 1]

/-- A sum over the 256 slots that vanishes at the unused ones: the two bytes', the three-bit ones' and the two-bit ones'. -/
theorem sum_slots (g : Nat → EReal) (h3 : ∀ w f, w < 4 → 10 ≤ f → f < 16 → g (160 + (w * 16 + f)) = 0) (hz : ∀ q, 226 ≤ q → g q = 0) :
    ∑ q : Fin 256, g q.val = (∑ r : Fin 2, g (224 + r.val)) + (∑ f : Fin 10, ∑ w : Fin 4, g (160 + (w.val * 16 + f.val)))
      + ∑ f : Fin 16, ∑ w : Fin 10, g (w.val * 16 + f.val) := by
  have e2 : ∑ f : Fin 16, ∑ w : Fin 10, g (w.val * 16 + f.val) = ∑ q ∈ Finset.range 160, g q := by
    rw [Finset.sum_comm, Fin.sum_univ_univ_mul_add 10 16 g, Fin.sum_univ_eq_sum_range (fun q => g q)]
  have e3 : ∑ f : Fin 10, ∑ w : Fin 4, g (160 + (w.val * 16 + f.val)) = ∑ q ∈ Finset.range 64, g (160 + q) := by
    rw [Finset.sum_comm, show 64 = 4 * 16 from rfl, Finset.sum_range_mul_split, ← Fin.sum_univ_eq_sum_range (fun a => ∑ b ∈ Finset.range 16, g (160 + (a * 16 + b)))]
    refine Finset.sum_congr rfl fun w _ => ?_
    rw [show 16 = 10 + 6 from rfl, Finset.sum_range_add, Finset.sum_eq_zero (s := Finset.range 6) fun f hf => h3 _ _ w.isLt (by omega) (by have := Finset.mem_range.1 hf; omega),
      add_zero, ← Fin.sum_univ_eq_sum_range (fun b => g (160 + (w.val * 16 + b)))]
  rw [e2, e3, Fin.sum_univ_eq_sum_range (fun r => g (224 + r)), Fin.sum_univ_eq_sum_range (fun q => g q), show 256 = 160 + (64 + (2 + 30)) from rfl,
    Finset.sum_range_add, Finset.sum_range_add, Finset.sum_range_add, Finset.sum_eq_zero (s := Finset.range 30) fun q _ => hz _ (by omega), add_zero,
    add_comm (∑ q ∈ Finset.range 160, g q)]
  refine congrArg (fun x : EReal => x + _) ?_
  rw [add_comm]
  rfl

section Args

variable (a0 : Vec F S6x256x1536 .bf16) (a1 : Vec F S768x8960 .i8) (a2 : Vec F S12x8960 .bf16) (a3 : Vec F S3x1536x2 .i8) (a4 : Vec F S3x8960x2 .i8)
  (a5 : Vec F S3x1536x4 .i32) (a6 : Vec F S3x8960x4 .i32) (a7 : Vec F S3x1536x10 .i32) (a8 : Vec F S3x8960x10 .i32)
  (a9 : Vec F S3x192 .bf16) (a10 : Vec F S3x192 .bf16) (a11 : Vec F S3x192 .f32) (a12 : Vec F S6 .i32)

/-- The base layers agree. -/
theorem base_eq (b : Fin 6) (s : Fin 256) (n : Fin 8960) : ∑ k : Fin 1536, argX a0 b s k * argW a1 a2 k n = refBase a0 a1 a2 b s n := by
  have key := sum_even_odd fun k => if hk : k < 1536 then argX a0 b s ⟨k, hk⟩ * argW a1 a2 ⟨k, hk⟩ n else 0
  unfold refBase
  refine Eq.trans (Finset.sum_congr rfl fun k _ => ?_) (key.trans (congrArg₂ (fun x y : EReal => x + y) (Finset.sum_congr rfl fun k _ => ?_) (Finset.sum_congr rfl fun k _ => ?_)))
  · rw [dif_pos k.isLt]
  · rw [dif_pos (by omega)]
  · rw [dif_pos (by omega)]

/-- One slot's product. -/
def slotTerm (d : Fin 3) (b : Fin 6) (s : Fin 256) (n : Fin 8960) (q : Nat) : EReal :=
  (∑ k : Fin 1536, argX a0 b s k * slotVal (fun w => a7 (ix3 d k w)) (fun w => a5 (ix3 d k w)) (a3 (ix3 d k 0)) (a3 (ix3 d k 1)) q)
    * slotCoef (argC a9 a10 a11 d) q * slotVal (fun w => a8 (ix3 d n w)) (fun w => a6 (ix3 d n w)) (a4 (ix3 d n 0)) (a4 (ix3 d n 1)) q

/-- A slot of no rank contributes zero. -/
theorem slotTerm_none (d : Fin 3) (b : Fin 6) (s : Fin 256) (n : Fin 8960) (q : Nat) (hq : slotRank q = none) :
    slotTerm a0 a3 a4 a5 a6 a7 a8 a9 a10 a11 d b s n q = 0 := by
  unfold slotTerm slotCoef
  rw [hq]
  show _ * (0 : EReal) * _ = 0
  rw [mul_zero, zero_mul]

/-- A slot whose rank is known has that rank's coefficient. -/
theorem slotCoef_some (R : Fin 192 → EReal) (q : Nat) (r : Fin 192) (hq : slotRank q = some r) : slotCoef R q = R r := by
  unfold slotCoef; rw [hq]; rfl

/-- A slot of no rank has the coefficient zero. -/
theorem slotCoef_none (R : Fin 192 → EReal) (q : Nat) (hq : slotRank q = none) : slotCoef R q = 0 := by
  unfold slotCoef; rw [hq]; rfl

/-- The coefficients of the two-bit slots. -/
theorem slotCoef_two (d : Fin 3) (q : Nat) (hq : q < 160) : slotCoef (argC a9 a10 a11 d) q = coef2 a9 a10 a11 d q := by
  unfold coef2
  split
  · rename_i h
    refine slotCoef_some _ _ _ ?_
    unfold slotRank
    rw [dif_pos h]
    exact congrArg some (Fin.ext (Nat.add_comm _ _))
  · refine slotCoef_none _ _ ?_
    unfold slotRank
    repeat rw [dif_neg (by omega)]

/-- The coefficients of the three-bit slots. -/
theorem slotCoef_three (d : Fin 3) (w f : Nat) (hw : w < 4) (hf : f < 10) :
    slotCoef (argC a9 a10 a11 d) (160 + (w * 16 + f)) = coef3 a9 a10 a11 d (w * 10 + f) := by
  unfold coef3
  split
  · rename_i h
    refine slotCoef_some _ _ _ ?_
    unfold slotRank
    interval_cases w
    · rw [dif_neg (by omega), dif_pos (by omega)]
      exact congrArg some (Fin.ext (by show 160 + (0 * 16 + f) - 158 = 2 + (0 * 10 + f); omega))
    · rw [dif_neg (by omega), dif_neg (by omega), dif_pos (by omega)]
      exact congrArg some (Fin.ext (by show 160 + (1 * 16 + f) - 164 = 2 + (1 * 10 + f); omega))
    · rw [dif_neg (by omega), dif_neg (by omega), dif_neg (by omega), dif_pos (by omega)]
      exact congrArg some (Fin.ext (by show 160 + (2 * 16 + f) - 170 = 2 + (2 * 10 + f); omega))
    · rw [dif_neg (by omega), dif_neg (by omega), dif_neg (by omega), dif_neg (by omega), dif_pos (by omega)]
      exact congrArg some (Fin.ext (by show 160 + (3 * 16 + f) - 176 = 2 + (3 * 10 + f); omega))
  · refine slotCoef_none _ _ ?_
    unfold slotRank
    repeat rw [dif_neg (by omega)]

/-- The coefficients of the two byte slots. -/
theorem slotCoef_byte (d : Fin 3) (r : Fin 2) : slotCoef (argC a9 a10 a11 d) (224 + r.val) = argC a9 a10 a11 d ⟨r.val, by omega⟩ := by
  refine slotCoef_some _ _ _ ?_
  have hr := r.isLt
  unfold slotRank
  rw [dif_neg (by omega), dif_neg (by omega), dif_neg (by omega), dif_neg (by omega), dif_neg (by omega), dif_pos (by omega)]
  exact congrArg some (Fin.ext (by show 224 + r.val - 224 = r.val; omega))

/-- The value at a byte slot. -/
theorem slot_byte (X2 : Fin 10 → BitVec 32) (X3 : Fin 4 → BitVec 32) (Y : Fin 2 → BitVec 8) (r : Fin 2) :
    slotVal X2 X3 (Y 0) (Y 1) (224 + r.val) = byteVal (Y r) := by
  rcases (by omega : r = 0 ∨ r = 1) with rfl | rfl
  · exact (Cert.KernelIdeal.Own.slot_lo X2 X3 (Y 0) (Y 1) rfl).symm
  · exact (Cert.KernelIdeal.Own.slot_hi X2 X3 (Y 0) (Y 1) rfl).symm

/-- The value at a three-bit slot. -/
theorem slot_three (X2 : Fin 10 → BitVec 32) (X3 : Fin 4 → BitVec 32) (lo hi : BitVec 8) (w : Fin 4) (f : Nat) (hf : f < 16) :
    slotVal X2 X3 lo hi (160 + (w.val * 16 + f)) = field3 (X3 w) f :=
  (Cert.KernelIdeal.Own.slot_three X2 X3 lo hi (by omega) (by omega) (by omega) (by omega)).symm

/-- The value at a two-bit slot. -/
theorem slot_two (X2 : Fin 10 → BitVec 32) (X3 : Fin 4 → BitVec 32) (lo hi : BitVec 8) (w : Fin 10) (f : Nat) (hf : f < 16) :
    slotVal X2 X3 lo hi (w.val * 16 + f) = field2 (X2 w) f :=
  (Cert.KernelIdeal.Own.slot_two X2 X3 lo hi (by omega) (by omega) (by omega)).symm

/-- The byte slots' products are the reference's. -/
theorem bytes_eq (d : Fin 3) (b : Fin 6) (s : Fin 256) (n : Fin 8960) :
    ∑ r : Fin 2, slotTerm a0 a3 a4 a5 a6 a7 a8 a9 a10 a11 d b s n (224 + r.val) = refBytes a0 a3 a4 a9 a10 a11 d b s n := by
  refine Finset.sum_congr rfl fun r _ => ?_
  unfold slotTerm
  rw [slotCoef_byte]
  refine congrArg₂ (fun x y : EReal => x * _ * y) (Finset.sum_congr rfl fun k _ => congrArg (fun y : EReal => _ * y) ?_) ?_
  · exact slot_byte _ _ (fun r => a3 (ix3 d k r)) r
  · exact slot_byte _ _ (fun r => a4 (ix3 d n r)) r

/-- The three-bit slots' products are the reference's. -/
theorem threes_eq (d : Fin 3) (b : Fin 6) (s : Fin 256) (n : Fin 8960) :
    ∑ f : Fin 10, ∑ w : Fin 4, slotTerm a0 a3 a4 a5 a6 a7 a8 a9 a10 a11 d b s n (160 + (w.val * 16 + f.val)) = refThrees a0 a5 a6 a9 a10 a11 d b s n := by
  refine Finset.sum_congr rfl fun f _ => Finset.sum_congr rfl fun w _ => ?_
  unfold slotTerm
  rw [slotCoef_three _ _ _ _ _ _ w.isLt f.isLt]
  refine congrArg₂ (fun x y : EReal => x * _ * y) (Finset.sum_congr rfl fun k _ => congrArg (fun y : EReal => _ * y) ?_) ?_
  · exact slot_three _ _ _ _ w _ (by omega)
  · exact slot_three _ _ _ _ w _ (by omega)

/-- The two-bit slots' products are the reference's. -/
theorem twos_eq (d : Fin 3) (b : Fin 6) (s : Fin 256) (n : Fin 8960) :
    ∑ f : Fin 16, ∑ w : Fin 10, slotTerm a0 a3 a4 a5 a6 a7 a8 a9 a10 a11 d b s n (w.val * 16 + f.val) = refTwos a0 a7 a8 a9 a10 a11 d b s n := by
  refine Finset.sum_congr rfl fun f _ => Finset.sum_congr rfl fun w _ => ?_
  unfold slotTerm
  rw [slotCoef_two _ _ _ _ _ (by omega)]
  refine congrArg₂ (fun x y : EReal => x * _ * y) (Finset.sum_congr rfl fun k _ => congrArg (fun y : EReal => _ * y) ?_) ?_
  · exact slot_two _ _ _ _ w _ f.isLt
  · exact slot_two _ _ _ _ w _ f.isLt

/-- The kernel's value is the reference's. -/
theorem value_eq (b : Fin 6) (s : Fin 256) (n : Fin 8960) :
    kernelVal a0 a1 a2 a3 a4 a5 a6 a7 a8 a9 a10 a11 a12 b s n = refBase a0 a1 a2 b s n + refBytes a0 a3 a4 a9 a10 a11 (argAdap a12 b) b s n
      + refThrees a0 a5 a6 a9 a10 a11 (argAdap a12 b) b s n + refTwos a0 a7 a8 a9 a10 a11 (argAdap a12 b) b s n := by
  have key := sum_slots (slotTerm a0 a3 a4 a5 a6 a7 a8 a9 a10 a11 (argAdap a12 b) b s n)
    (fun w f hw h10 h16 => slotTerm_none _ _ _ _ _ _ _ _ _ _ _ _ _ _ _ (by unfold slotRank; repeat rw [dif_neg (by omega)]))
    (fun q hq => slotTerm_none _ _ _ _ _ _ _ _ _ _ _ _ _ _ _ (by unfold slotRank; repeat rw [dif_neg (by omega)]))
  rw [bytes_eq, threes_eq, twos_eq] at key
  unfold kernelVal
  rw [base_eq, add_assoc, add_assoc, ← add_assoc (refBytes _ _ _ _ _ _ _ _ _ _)]
  exact congrArg (fun y : EReal => _ + y) key

end Args

/-- The reference's sum at an index is the kernel's value over equal arguments. -/
theorem ref_kernel (V0 : Valuation τ sig (Elt Ideal)) (a0 : Vec F S6x256x1536 .bf16) (a1 : Vec F S768x8960 .i8) (a2 : Vec F S12x8960 .bf16) (a3 : Vec F S3x1536x2 .i8) (a4 : Vec F S3x8960x2 .i8) (a5 : Vec F S3x1536x4 .i32) (a6 : Vec F S3x8960x4 .i32) (a7 : Vec F S3x1536x10 .i32) (a8 : Vec F S3x8960x10 .i32) (a9 : Vec F S3x192 .bf16) (a10 : Vec F S3x192 .bf16) (a11 : Vec F S3x192 .f32) (a12 : Vec F S6 .i32)
    (e0 : (V0 (Proc.devRef .tc main_arg0)) = a0) (e1 : (V0 (Proc.devRef .tc main_arg1)) = a1) (e2 : (V0 (Proc.devRef .tc main_arg2)) = a2) (e3 : (V0 (Proc.devRef .tc main_arg3)) = a3) (e4 : (V0 (Proc.devRef .tc main_arg4)) = a4) (e5 : (V0 (Proc.devRef .tc main_arg5)) = a5) (e6 : (V0 (Proc.devRef .tc main_arg6)) = a6) (e7 : (V0 (Proc.devRef .tc main_arg7)) = a7) (e8 : (V0 (Proc.devRef .tc main_arg8)) = a8) (e9 : (V0 (Proc.devRef .tc main_arg9)) = a9) (e10 : (V0 (Proc.devRef .tc main_arg10)) = a10) (e11 : (V0 (Proc.devRef .tc main_arg11)) = a11) (e12 : (V0 (Proc.devRef .tc main_arg12)) = a12)
    (h : ∀ b : Fin 6, BitVec.toNat (a12 (ix1 b)) < 3) (b : Fin 6) (s : Fin 256) (n : Fin 8960) :
    Value.res_main_v207 V0 (ix3 b s n) = kernelVal a0 a1 a2 a3 a4 a5 a6 a7 a8 a9 a10 a11 a12 b s n := by
  subst e0 e1 e2 e3 e4 e5 e6 e7 e8 e9 e10 e11 e12
  exact (ref_at V0 h b s n).trans (value_eq _ _ _ _ _ _ _ _ _ _ _ _ _ b s n).symm

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_idx_in_range
public import proofs.«01_k».proof.Proof.Gen.KernelIdeal.Value
public import proofs.«01_k».proof.Proof.Gen.ReferenceIdeal.Run
public import proofs.«01_k».proof.Proof.KernelValue
public import proofs.«01_k».proof.Proof.Equation
public import Idealize.ShloMosaic.Adequacy
public import Idealize.ShloMosaic.Init

@[expose] public section

noncomputable section

namespace Cert.Proof

open Idealize.ShloMosaic Idealize.SL.Sem

/-- The reference runs and leaves its arguments and counters as they were. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- From arguments that agree, the reference's result is the kernel's, element by element. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : letI := Cert.Pre_idx_in_range.Gen.facts; Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    @Eq (FVec Ideal Cert.ReferenceIdeal.S6x256x8960 .bf16)
      (truncf .bf16 (Cert.ReferenceIdeal.Value.res_main_v207 (F := Ideal) (StableHlo.launchContents m' c)) Cert.ReferenceIdeal.Gen.bitsLt_bf16_f32)
      ((Cert.KernelIdeal.Gen.dats m (Cert.KernelIdeal.Own.hyps_of_pre m h) 0 c).arrAt 13 Cert.KernelIdeal.cfg0.N) := by
  obtain ⟨e0, e1, e2, e3, e4, e5, e6, e7, e8, e9, e10, e11, e12⟩ := hagree
  refine Eq.trans (funext fun y => ?_) (Cert.KernelIdeal.Own.arr m _ c (Cert.KernelIdeal.Own.blk_lt m h c)).symm
  exact (congrArg _ (ix3_eta y).symm).trans (Cert.ReferenceIdeal.Own.ref_kernel (StableHlo.launchContents m' c) _ _ _ _ _ _ _ _ _ _ _ _ _
    e0 e1 e2 e3 e4 e5 e6 e7 e8 e9 e10 e11 e12 (fun b => Cert.KernelIdeal.Own.idx_lt m h c (ix1 b)) (y 0) (y 1) (y 2))

/-- Everything that the certificate claims. -/
theorem claim : Cert.Claim := ⟨Cert.Kernel.Gen.facts, Cert.KernelIdeal.Gen.facts, Cert.ReferenceIdeal.Gen.facts, Cert.Pre_idx_in_range.Gen.facts,
  fun m g h => Cert.Kernel.Gen.frame m g (Cert.Kernel.Own.hyps_of_pre m h),
  fun m g h => Cert.KernelIdeal.Gen.frame m g (Cert.KernelIdeal.Own.hyps_of_pre m h),
  frame_reference,
  fun m g _ => frame_reference m g trivial,
  trivial,
  fun m g m' g' h hagree => ⟨fun c => (Cert.KernelIdeal.Gen.dats m (Cert.KernelIdeal.Own.hyps_of_pre m h) 0 c).arrAt 13 Cert.KernelIdeal.cfg0.N,
    Cert.KernelIdeal.Value.run_blocks m g (Cert.KernelIdeal.Own.hyps_of_pre m h),
    (θ_run (Cert.ReferenceIdeal.defs (F := Ideal)) _ _).mono (fun _ hr c => ⟨(hr c).1.trans (values m m' h c (hagree c)), (hr c).2⟩)
      (Cert.ReferenceIdeal.Value.run (F := Ideal) m' g')⟩⟩

end Cert.Proof

end
